-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x64x8192x2 : Shape := ⟨4, ![16, 64, 8192, 2]⟩
abbrev S16x64x8192 : Shape := ⟨3, ![16, 64, 8192]⟩
abbrev S_ : Shape := ⟨0, ![]⟩

class Facts : Prop where
  bcast_S_S16x64x8192 : S_.BroadcastsInDim S16x64x8192 (![] : Fin 0 → Fin S16x64x8192.rank)
  reducesTo_S16x64x8192_S_d0_1_2 : S16x64x8192.ReducesTo [0, 1, 2] S_
  h_S_ : 0 < S_.numel

variable [Facts]

def fn {F : FTy → Type} [FloatOps F] (main_arg0 : FVec F S16x64x8192x2 .f32) (main_arg1 : IVec S16x64x8192 32) : IVec S_ 1 :=
  let main_c : IVec S_ 32 := constantI S_ 32 0#32
  let main_v0 : IVec S16x64x8192 32 := broadcastInDim S16x64x8192 ![] bcast_S_S16x64x8192 main_c
  let main_v1 : IVec S16x64x8192 1 := cmpi .sge main_arg1 main_v0
  let main_c_0 : IVec S_ 32 := constantI S_ 32 16384#32
  let main_v2 : IVec S16x64x8192 32 := broadcastInDim S16x64x8192 ![] bcast_S_S16x64x8192 main_c_0
  let main_v3 : IVec S16x64x8192 1 := cmpi .slt main_arg1 main_v2
  let main_v4 : IVec S16x64x8192 1 := andi main_v1 main_v3
  let main_c_1 : IVec S_ 1 := constantI S_ 1 1#1
  let main_v5 : IVec S_ 1 := (fun x v => Host.reduce IntOp.andi x v reducesTo_S16x64x8192_S_d0_1_2 h_S_) main_v4 main_c_1
  main_v5
-- ==== Kernel.lean ====
abbrev S16x64x8192x2 : Shape := ⟨4, ![16, 64, 8192, 2]⟩
abbrev S16x64x8192 : Shape := ⟨3, ![16, 64, 8192]⟩
abbrev S1024x16384 : Shape := ⟨2, ![1024, 16384]⟩
abbrev S1024x8192 : Shape := ⟨2, ![1024, 8192]⟩
abbrev S1024x32768 : Shape := ⟨2, ![1024, 32768]⟩
abbrev S16384 : Shape := ⟨1, ![16384]⟩
abbrev S8208 : Shape := ⟨1, ![8208]⟩
abbrev S32768 : Shape := ⟨1, ![32768]⟩
abbrev S16 : Shape := ⟨1, ![16]⟩
abbrev S_ : Shape := ⟨0, ![]⟩
abbrev S1x16384 : Shape := ⟨2, ![1, 16384]⟩
abbrev S8192 : Shape := ⟨1, ![8192]⟩
abbrev S1x8192 : Shape := ⟨2, ![1, 8192]⟩
abbrev S1x32768 : Shape := ⟨2, ![1, 32768]⟩
abbrev S16x64x16384x2 : Shape := ⟨4, ![16, 64, 16384, 2]⟩

abbrev nBuf : Table → Nat
  | .hbm => 6
  | .local .scVector .vmem => 3
  | _ => 0

abbrev bufTy : (tb : Table) → Fin (nBuf tb) → BufTy
  | .hbm, ⟨0, _⟩ => ⟨S16x64x8192x2, .f32⟩
  | .hbm, ⟨1, _⟩ => ⟨S16x64x8192, .i32⟩
  | .hbm, ⟨2, _⟩ => ⟨S1024x16384, .f32⟩
  | .hbm, ⟨3, _⟩ => ⟨S1024x8192, .i32⟩
  | .hbm, ⟨4, _⟩ => ⟨S1024x32768, .f32⟩
  | .hbm, ⟨5, _⟩ => ⟨S16x64x16384x2, .f32⟩
  | .local .scVector .vmem, ⟨0, _⟩ => ⟨S16384, .f32⟩
  | .local .scVector .vmem, ⟨1, _⟩ => ⟨S8208, .i32⟩
  | .local .scVector .vmem, ⟨2, _⟩ => ⟨S32768, .f32⟩
  | _, _ => ⟨S16x64x8192x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v6 : BitVec 32 := Scalar.addi c0_i32_0 c32_i32
  let c1_i32 : BitVec 32 := 1#32
  ⟨c0_i32_0, v6, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v7 : BitVec 32 := Scalar.muli v1 c32_i32_2
  let c0_i32_0 : BitVec 32 := 0#32
  let c1_i32 : BitVec 32 := 1#32
  let arg8 : BitVec 32 := Scf.iv c0_i32_0 c1_i32 k0_t1
  let v8 : BitVec 32 := Scalar.addi v7 arg8
  let c0_i32_11_r0 : BitVec 32 := 0#32
  ![v8.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v7 : BitVec 32 := Scalar.muli v1 c32_i32_2
  let c0_i32_0 : BitVec 32 := 0#32
  let c1_i32 : BitVec 32 := 1#32
  let arg8 : BitVec 32 := Scf.iv c0_i32_0 c1_i32 k0_t1
  let v8 : BitVec 32 := Scalar.addi v7 arg8
  let c0_i32_12_r1 : BitVec 32 := 0#32
  ![v8.toNat, 0]
@[reducible] def k0_t2_loop : Scf.Loop 32 :=
  let c0_i32_4 : BitVec 32 := 0#32
  let c2048_i32 : BitVec 32 := 2048#32
  let v9 : BitVec 32 := Scalar.addi c0_i32_4 c2048_i32
  let c1_i32_5 : BitVec 32 := 1#32
  ⟨c0_i32_4, v9, c1_i32_5⟩
def k0_mult1 (k0_t2 : Fin k0_t2_loop.trips) : BitVec 32 :=
  let c0_i32_4 : BitVec 32 := 0#32
  let c1_i32_5 : BitVec 32 := 1#32
  let arg9 : BitVec 32 := Scf.iv c0_i32_4 c1_i32_5 k0_t2
  let c16_i32 : BitVec 32 := 16#32
  let v11 : BitVec 32 := Scalar.muli arg9 c16_i32
  v11
def k0_off3 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32 : BitVec 32 := 16#32
  let v11 : BitVec 32 := Scalar.muli arg9 c16_i32
  let v12 : BitVec 32 := v11
  let v13 : Index := Scalar.indexCast v12
  ![v13.toNat]
@[reducible] def k0_t3_loop : Scf.Loop 32 :=
  let c0_i32_8 : BitVec 32 := 0#32
  let c512_i32 : BitVec 32 := 512#32
  let v10 : BitVec 32 := Scalar.addi c0_i32_8 c512_i32
  let c1_i32_9 : BitVec 32 := 1#32
  ⟨c0_i32_8, v10, c1_i32_9⟩

def k0_chk1 (v13 : IVec S16 32) : Prop :=
  (∀ a x, ((![v13] : Fin 1 → IVec S16 32) a x).toNat < S8208.size a)
theorem k0_idx1_inb : ∀ (v13 : IVec S16 32) (k0_hw1 : k0_chk1 v13), ∀ a x, ((![v13] : Fin 1 → IVec S16 32) a x).toNat < S8208.size a := fun v13 k0_hw1 => k0_hw1

def k0_chk2 (v17 : IVec S16 32) : Prop :=
  (∀ a x, ((![v17] : Fin 1 → IVec S16 32) a x).toNat < S8208.size a)
theorem k0_idx2_inb : ∀ (v17 : IVec S16 32) (k0_hw2 : k0_chk2 v17), ∀ a x, ((![v17] : Fin 1 → IVec S16 32) a x).toNat < S8208.size a := fun v17 k0_hw2 => k0_hw2

def k0_chk3 (v24 : IVec S16 32) : Prop :=
  (∀ a x, ((![v24] : Fin 1 → IVec S16 32) a x).toNat < S16384.size a)
theorem k0_idx3_inb : ∀ (v24 : IVec S16 32) (k0_hw3 : k0_chk3 v24), ∀ a x, ((![v24] : Fin 1 → IVec S16 32) a x).toNat < S16384.size a := fun v24 k0_hw3 => k0_hw3

def k0_chk4 (v32 : IVec S16 32) : Prop :=
  (∀ a x, ((![v32] : Fin 1 → IVec S16 32) a x).toNat < S16384.size a)
theorem k0_idx4_inb : ∀ (v32 : IVec S16 32) (k0_hw4 : k0_chk4 v32), ∀ a x, ((![v32] : Fin 1 → IVec S16 32) a x).toNat < S16384.size a := fun v32 k0_hw4 => k0_hw4

def k0_chk5 (v35 : IVec S16 32) : Prop :=
  (∀ a x, ((![v35] : Fin 1 → IVec S16 32) a x).toNat < S32768.size a)
theorem k0_idx5_inb : ∀ (v35 : IVec S16 32) (k0_hw5 : k0_chk5 v35), ∀ a x, ((![v35] : Fin 1 → IVec S16 32) a x).toNat < S32768.size a := fun v35 k0_hw5 => k0_hw5

def k0_chk6 (v39 : IVec S16 32) : Prop :=
  (∀ a x, ((![v39] : Fin 1 → IVec S16 32) a x).toNat < S32768.size a)
theorem k0_idx6_inb : ∀ (v39 : IVec S16 32) (k0_hw6 : k0_chk6 v39), ∀ a x, ((![v39] : Fin 1 → IVec S16 32) a x).toNat < S32768.size a := fun v39 k0_hw6 => k0_hw6
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v7 : BitVec 32 := Scalar.muli v1 c32_i32_2
  let c0_i32_0 : BitVec 32 := 0#32
  let c1_i32 : BitVec 32 := 1#32
  let arg8 : BitVec 32 := Scf.iv c0_i32_0 c1_i32 k0_t1
  let v8 : BitVec 32 := Scalar.addi v7 arg8
  let c0_i32_11_r2 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x64x8192x2 : Shape := ⟨4, ![16, 64, 8192, 2]⟩
abbrev S16x64x8192 : Shape := ⟨3, ![16, 64, 8192]⟩
abbrev S1024x8192 : Shape := ⟨2, ![1024, 8192]⟩
abbrev S1024 : Shape := ⟨1, ![1024]⟩
abbrev S1024x1 : Shape := ⟨2, ![1024, 1]⟩
abbrev S_ : Shape := ⟨0, ![]⟩
abbrev S8388608 : Shape := ⟨1, ![8388608]⟩
abbrev S8388608x2 : Shape := ⟨2, ![8388608, 2]⟩
abbrev S16777216x2 : Shape := ⟨2, ![16777216, 2]⟩
abbrev S8388608x1 : Shape := ⟨2, ![8388608, 1]⟩
abbrev S16x64x16384x2 : Shape := ⟨4, ![16, 64, 16384, 2]⟩

abbrev nBuf : Space → Nat
  | .hbm => 24
  | .vmem => 0
  | .smem => 0
  | _ => 0

abbrev bufTy : (tb : Table) → Fin (tcTables nBuf tb) → BufTy
  | .hbm, ⟨0, _⟩ => ⟨S16x64x8192x2, .f32⟩
  | .hbm, ⟨1, _⟩ => ⟨S16x64x8192, .i32⟩
  | .hbm, ⟨2, _⟩ => ⟨S1024x8192, .i32⟩
  | .hbm, ⟨3, _⟩ => ⟨S1024, .i32⟩
  | .hbm, ⟨4, _⟩ => ⟨S1024x1, .i32⟩
  | .hbm, ⟨5, _⟩ => ⟨S_, .i32⟩
  | .hbm, ⟨6, _⟩ => ⟨S1024x1, .i32⟩
  | .hbm, ⟨7, _⟩ => ⟨S1024x1, .i32⟩
  | .hbm, ⟨8, _⟩ => ⟨S1024x8192, .i32⟩
  | .hbm, ⟨9, _⟩ => ⟨S1024x8192, .i32⟩
  | .hbm, ⟨10, _⟩ => ⟨S8388608, .i32⟩
  | .hbm, ⟨11, _⟩ => ⟨S8388608x2, .f32⟩
  | .hbm, ⟨12, _⟩ => ⟨S_, .f32⟩
  | .hbm, ⟨13, _⟩ => ⟨S16777216x2, .f32⟩
  | .hbm, ⟨14, _⟩ => ⟨S_, .i32⟩
  | .hbm, ⟨15, _⟩ => ⟨S8388608, .i32⟩
  | .hbm, ⟨16, _⟩ => ⟨S8388608, .i1⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608, .i32⟩
  | .hbm, ⟨21, _⟩ => ⟨S8388608x1, .i32⟩
  | .hbm, ⟨22, _⟩ => ⟨S16777216x2, .f32⟩
  | .hbm, ⟨23, _⟩ => ⟨S16x64x16384x2, .f32⟩
  | _, _ => ⟨S16x64x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Scatter.lean ====
/-
  The mathematics of the unpooling of one row, free of any program: which value ends up at a place when the pairs of a
  row are written one after another at the pooled positions an index list names, later writes over earlier ones; the
  same when a write is left out because the next index is equal; and how sixteen lanes of an indexed store advance it.
-/
module

public import Idealize.ShloMosaic.PureOps
public import Idealize.ShloMosaic.Lib.LaneScatter.Pure
public import Idealize.ShloMosaic.Lib.ValueIdxCore

@[expose] public section

noncomputable section

namespace Cert.Proof.Scatter

open Idealize.ShloMosaic Idealize.ShloMosaic.LaneScatter
open Idealize.ShloMosaic.ValueIdx (ix1 ix2)

variable {α : Type}

/-! ## Arrays read at natural-number positions -/

/-- The entry of a two-axis array in row `r` and column `k`, the column number wrapped at the row's end. -/
def cell {a b : ℕ} (hb : 0 < b) (f : (⟨2, ![a, b]⟩ : Shape).Idx → α) (r : Fin a) (k : ℕ) : α :=
  f (ix2 r ⟨k % b, Nat.mod_lt k hb⟩)

/-- The entry of a one-axis array at position `k`, wrapped at the end. -/
def entry {n : ℕ} (hn : 0 < n) (f : (⟨1, ![n]⟩ : Shape).Idx → α) (k : ℕ) : α :=
  f (ix1 ⟨k % n, Nat.mod_lt k hn⟩)

/-- Reading a one-axis array at an index is reading it at that index's number. -/
theorem entry_val {n : ℕ} (hn : 0 < n) (f : (⟨1, ![n]⟩ : Shape).Idx → α) (i : (⟨1, ![n]⟩ : Shape).Idx) :
    entry hn f (i 0).val = f i := by
  unfold entry
  refine congrArg f (funext fun a => Fin.ext ?_)
  match a with
  | ⟨0, _⟩ => exact Nat.mod_eq_of_lt (i 0).isLt

/-- Two indices of a one-axis array with the same number are equal. -/
theorem idx1_ext {n : ℕ} {i j : (⟨1, ![n]⟩ : Shape).Idx} (h : (i 0).val = (j 0).val) : i = j :=
  funext fun a => match a with | ⟨0, _⟩ => Fin.ext h

/-! ## One row unpooled -/

/-- Place `q` of an unpooled row: pair `q / 2`, part `q % 2`. Its value is that part of the last of the first `n` pooled
    pairs whose index is `q / 2`, and `z` when there is none. -/
def rowOut (d : ℕ → ℕ) (x : ℕ → α) (z : α) (n q : ℕ) : α :=
  lastHit (fun k => d k = q / 2) (fun k => x (2 * k + q % 2)) z n

/-- The same, where a pair whose index equals the next one's is not written. -/
def keptOut (d : ℕ → ℕ) (x : ℕ → α) (z : α) (n q : ℕ) : α :=
  lastHit (fun k => d k = q / 2 ∧ d k ≠ d (k + 1)) (fun k => x (2 * k + q % 2)) z n

/-- Leaving out the pairs whose successor has the same index changes nothing, provided the entry after the last one is
    no position of the row: the last pair at a position is never left out. -/
theorem keptOut_eq (d : ℕ → ℕ) (x : ℕ → α) (z : α) {n q : ℕ} (hn : d n ≠ q / 2) :
    keptOut d x z n q = rowOut d x z n q := by
  unfold keptOut rowOut
  rcases lastHit_cases (fun k => d k = q / 2) (fun k => x (2 * k + q % 2)) z n with ⟨k, hk, hit, hlast, heq⟩ | ⟨hno, heq⟩
  · rw [heq]
    refine lastHit_of_last (hit := fun k => d k = q / 2 ∧ d k ≠ d (k + 1)) _ _ ⟨hit, fun e => ?_⟩ hk fun j hj hjn h => hlast j hj hjn h.1
    rcases Nat.lt_or_ge (k + 1) n with h | h
    · exact hlast (k + 1) (by omega) h (e ▸ hit)
    · exact hn ((show k + 1 = n by omega) ▸ e ▸ hit)
  · rw [heq]
    exact lastHit_of_none _ _ fun k hk h => hno k hk h.1

/-- The value depends only on the first `n` indices and on the `2 n` entries paired with them. -/
theorem rowOut_congr {d d' : ℕ → ℕ} {x x' : ℕ → α} {z : α} {n q : ℕ} (hd : ∀ k, k < n → d k = d' k)
    (hx : ∀ k, k < 2 * n → x k = x' k) : rowOut d x z n q = rowOut d' x' z n q :=
  lastHit_congr z (fun k hk => by rw [hd k hk]) fun k hk _ => hx _ (by omega)

/-! ## An indexed store, one lane after another -/

/-- A fold over the first `n` numbers that at each of them either replaces what it has or keeps it, is the last value put. -/
theorem foldl_lastHit (p : ℕ → Prop) [DecidablePred p] (val : ℕ → α) (y : α) (n : ℕ) :
    (List.finRange n).foldl (fun (acc : α) (k : Fin n) => if p k.val then val k.val else acc) y = lastHit p val y n := by
  induction n with
  | zero => rfl
  | succ n ih =>
    rw [List.finRange_succ_last, List.foldl_append, List.foldl_map]
    show (if p (Fin.last n).val then val (Fin.last n).val else List.foldl _ y (List.finRange n)) = _
    have hf : (fun (acc : α) (k : Fin n) => if p (k.castSucc).val then val (k.castSucc).val else acc)
        = fun (acc : α) (k : Fin n) => if p k.val then val k.val else acc := rfl
    rw [hf, ih]
    rfl

/-- A fold of pointwise updates read at one place is the fold of the updates of that place. -/
theorem foldl_at {I J β : Type} (step : (J → β) → I → J → β) (at1 : J → β → I → β)
    (h : ∀ g i j, step g i j = at1 j (g j) i) (l : List I) (f : J → β) (j : J) :
    l.foldl step f j = l.foldl (at1 j) (f j) := by
  induction l generalizing f with
  | nil => rfl
  | cons i l ih => rw [List.foldl_cons, List.foldl_cons, ih, h]

variable {F : FTy → Type} [FloatOps F]

/-- An indexed store that overwrites, read at one place: the value of the last set lane that names the place, and what was
    there when no set lane does. -/
theorem storeIdx_apply {n w : ℕ} (hw : 0 < w) {e : EltTy} (f : Vec F ⟨1, ![n]⟩ e) (ix : IVec ⟨1, ![w]⟩ 32) (v : Vec F ⟨1, ![w]⟩ e)
    (mask : IVec ⟨1, ![w]⟩ 1) (h : ∀ a x, ((![ix] : Fin 1 → IVec ⟨1, ![w]⟩ 32) a x).toNat < (⟨1, ![n]⟩ : Shape).size a)
    (j : (⟨1, ![n]⟩ : Shape).Idx) :
    storeIdx f ![ix] v mask false h j
      = lastHit (fun l => entry hw mask l = 1 ∧ (j 0).val = (entry hw ix l).toNat) (fun l => entry hw v l) (f j) w := by
  rw [← foldl_lastHit]
  unfold storeIdx
  refine foldl_at _ (fun (j : (⟨1, ![n]⟩ : Shape).Idx) acc (k : Fin w) => if entry hw mask k.val = 1 ∧ (j 0).val = (entry hw ix k.val).toNat then entry hw v k.val else acc)
    (fun g k j => ?_) _ _ _
  have hm : entry hw mask k.val = mask (Shape.ofLane k) := by
    unfold entry; refine congrArg mask (idx1_ext ?_); exact Nat.mod_eq_of_lt k.isLt
  have hv : entry hw v k.val = v (Shape.ofLane k) := by
    unfold entry; refine congrArg v (idx1_ext ?_); exact Nat.mod_eq_of_lt k.isLt
  have hi : entry hw ix k.val = ix (Shape.ofLane k) := by
    unfold entry; refine congrArg ix (idx1_ext ?_); exact Nat.mod_eq_of_lt k.isLt
  rw [hm, hv, hi]
  by_cases h1 : mask (Shape.ofLane k) = 1
  · simp only [h1, if_true, true_and, Bool.false_eq_true, if_false]
    refine if_congr ⟨fun hall => hall 0, fun h0 a => ?_⟩ rfl rfl
    match a with
    | ⟨0, _⟩ => exact h0
  · simp only [h1, if_false, false_and]

/-- One step of the scatter loop. `A` holds the row as the pairs before `16 t` leave it; storing sixteen even parts and then
    sixteen odd parts, at twice the index and one past it, under the mask of the pairs that are kept, gives the row as the
    pairs before `16 (t + 1)` leave it. -/
theorem scatter_step {n : ℕ} {e : EltTy} (d : ℕ → ℕ) (x : ℕ → Elt F e) (z : Elt F e) (t : ℕ)
    (A : Vec F ⟨1, ![n]⟩ e) (hA : ∀ j, A j = keptOut d x z (16 * t) (j 0).val)
    (ixE ixO : IVec ⟨1, ![16]⟩ 32) (vE vO : Vec F ⟨1, ![16]⟩ e) (mask : IVec ⟨1, ![16]⟩ 1)
    (hE : ∀ a x, ((![ixE] : Fin 1 → IVec ⟨1, ![16]⟩ 32) a x).toNat < (⟨1, ![n]⟩ : Shape).size a)
    (hO : ∀ a x, ((![ixO] : Fin 1 → IVec ⟨1, ![16]⟩ 32) a x).toNat < (⟨1, ![n]⟩ : Shape).size a)
    (hixE : ∀ l : Fin 16, (ixE (ix1 l)).toNat = 2 * d (16 * t + l.val))
    (hixO : ∀ l : Fin 16, (ixO (ix1 l)).toNat = 2 * d (16 * t + l.val) + 1)
    (hvE : ∀ l : Fin 16, vE (ix1 l) = x (2 * (16 * t + l.val)))
    (hvO : ∀ l : Fin 16, vO (ix1 l) = x (2 * (16 * t + l.val) + 1))
    (hmask : ∀ l : Fin 16, mask (ix1 l) = 1 ↔ d (16 * t + l.val) ≠ d (16 * t + l.val + 1))
    (j : (⟨1, ![n]⟩ : Shape).Idx) :
    storeIdx (storeIdx A ![ixE] vE mask false hE) ![ixO] vO mask false hO j = keptOut d x z (16 * (t + 1)) (j 0).val := by
  have h16 : 0 < 16 := by omega
  rw [storeIdx_apply h16, storeIdx_apply h16, hA]
  have hmod : ∀ l, l < 16 → l % 16 = l := fun l hl => Nat.mod_eq_of_lt hl
  have em : ∀ l, l < 16 → (entry h16 mask l = 1 ↔ d (16 * t + l) ≠ d (16 * t + l + 1)) := fun l hl => by
    unfold entry; rw [hmask]; simp only [hmod l hl]
  have ee : ∀ l, l < 16 → (entry h16 ixE l).toNat = 2 * d (16 * t + l) := fun l hl => by
    unfold entry; rw [hixE]; simp only [hmod l hl]
  have eo : ∀ l, l < 16 → (entry h16 ixO l).toNat = 2 * d (16 * t + l) + 1 := fun l hl => by
    unfold entry; rw [hixO]; simp only [hmod l hl]
  have ve : ∀ l, l < 16 → entry h16 vE l = x (2 * (16 * t + l)) := fun l hl => by
    unfold entry; rw [hvE]; simp only [hmod l hl]
  have vo : ∀ l, l < 16 → entry h16 vO l = x (2 * (16 * t + l) + 1) := fun l hl => by
    unfold entry; rw [hvO]; simp only [hmod l hl]
  unfold keptOut
  rw [show 16 * (t + 1) = 16 * t + 16 by omega, lastHit_add]
  generalize lastHit (fun k => d k = (j 0).val / 2 ∧ d k ≠ d (k + 1)) (fun k => x (2 * k + (j 0).val % 2)) z (16 * t) = B
  generalize (j 0).val = q
  rcases Nat.mod_two_eq_zero_or_one q with hq | hq
  · rw [lastHit_of_none _ _ fun l hl h => by rw [eo l hl] at h; omega]
    refine lastHit_congr B (fun l hl => ?_) fun l hl _ => by rw [ve l hl, hq, Nat.add_zero]
    rw [em l hl, ee l hl]
    constructor
    · rintro ⟨h1, h2⟩; exact ⟨by omega, h1⟩
    · rintro ⟨h1, h2⟩; exact ⟨h2, by omega⟩
  · rw [lastHit_of_none (hit := fun l => entry h16 mask l = 1 ∧ q = (entry h16 ixE l).toNat) _ _ fun l hl h => by
      have := h.2; rw [ee l hl] at this; omega]
    refine lastHit_congr B (fun l hl => ?_) fun l hl _ => by rw [vo l hl, hq]
    rw [em l hl, eo l hl]
    constructor
    · rintro ⟨h1, h2⟩; exact ⟨by omega, h1⟩
    · rintro ⟨h1, h2⟩; exact ⟨h2, by omega⟩

end Cert.Proof.Scatter

end

end
-- ==== Proof.KernelIdealTask.lean ====
/-
  One vector subcore's task of the unpooling kernel: thirty-two rows, one after another, each fetched, unpooled in the
  subcore's own memory and written back. What it leaves in each row of the result is stated as a plain function of the
  pooled values and the indices (Proof/Scatter.lean).
-/
module

public import proofs.«01_k».proof.Defs
public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.WordCmp
public import proofs.«01_k».proof.Proof.Gen.KernelIdeal
public import proofs.«01_k».proof.Proof.Gen.KernelIdeal.Skeleton

@[expose] public section

set_option maxRecDepth 16384

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Cert.Proof.Scatter

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the program's semaphores: each launch semaphore outlives the call, and the two a sequencer
    waits on differ. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the scratches, a task's rows -/

/-- The pooled values, the indices and the result on device `d`, each with one row to a sample and channel. -/
abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- The arrays and the three scratches as a vector subcore addresses them. -/
abbrev xV : Memref sig .scVector .hbm S1024x16384 .f32 := Memref.whole main_v0_scv
abbrev iV : Memref sig .scVector .hbm S1024x8192 .i32 := Memref.whole main_v1_scv
abbrev oV : Memref sig .scVector .hbm S1024x32768 .f32 := Memref.whole main_v2_scv
abbrev sX : Memref sig .scVector .vmem S16384 .f32 := Memref.whole cc0_scratch0
abbrev sI : Memref sig .scVector .vmem S8208 .i32 := Memref.whole cc0_scratch1
abbrev sO : Memref sig .scVector .vmem S32768 .f32 := Memref.whole cc0_scratch2

abbrev cV (L : grid0.Coords) : Fin τ.nSC := (L 0).castLE hcore0
abbrev jV (L : grid0.Coords) : Fin τ.nSub := (L 1).castLE hsub0
/-- The thread of the vector subcore at grid coordinates `L`. -/
abbrev tV (d : Dev nD) (L : grid0.Coords) : Thread nD τ := V d (cV L) (jV L)

/-- The row trip `r` of the task at `L` works on, in each of the three arrays, as the program slices it. -/
abbrev xRow (L : grid0.Coords) (r : Fin k0_t1_loop.trips) : Memref sig .scVector .hbm S16384 .f32 :=
  (xV.slice (Rect.unit (s := S1024x16384) (k0_off1 L r) S1x16384.size (k0_off1_inb L r)) (fun _ => rfl)).squeeze S16384 squeezes_S1x16384_S16384
abbrev iRow (L : grid0.Coords) (r : Fin k0_t1_loop.trips) : Memref sig .scVector .hbm S8192 .i32 :=
  (iV.slice (Rect.unit (s := S1024x8192) (k0_off2 L r) S1x8192.size (k0_off2_inb L r)) (fun _ => rfl)).squeeze S8192 squeezes_S1x8192_S8192
abbrev oRow (L : grid0.Coords) (r : Fin k0_t1_loop.trips) : Memref sig .scVector .hbm S32768 .f32 :=
  (oV.slice (Rect.unit (s := S1024x32768) (k0_off4 L r) S1x32768.size (k0_off4_inb L r)) (fun _ => rfl)).squeeze S32768 squeezes_S1x32768_S32768

/-- The number of that row among the 1024. -/
def rowNo (L : grid0.Coords) (r : Fin k0_t1_loop.trips) : ℕ := 64 * (L 1).val + 32 * (L 0).val + r.val

theorem trips1 : k0_t1_loop.trips = 32 := by decide
theorem trips2 : k0_t2_loop.trips = 2048 := by decide
theorem trips3 : k0_t3_loop.trips = 512 := by decide

theorem rowNo_lt (L : grid0.Coords) (r : Fin k0_t1_loop.trips) : rowNo L r < 1024 := by
  have h0 : (L 0).val < 2 := (L 0).isLt
  have h1 : (L 1).val < 16 := (L 1).isLt
  have hr : r.val < 32 := lt_of_lt_of_eq r.isLt trips1
  unfold rowNo; omega

abbrev rowFin (L : grid0.Coords) (r : Fin k0_t1_loop.trips) : Fin 1024 := ⟨rowNo L r, rowNo_lt L r⟩

/-! ## The words a step of the scatter loop computes -/

/-- The lane numbers. -/
abbrev lanes : IVec S16 32 := iota .scVector S16 32 [0] iota_S16_d0_w32_scVector

theorem lanes_at (l : Fin 16) : lanes (ix1 l) = BitVec.ofNat 32 l.val := by
  show BitVec.ofNat 32 (0 * 16 + l.val) = _
  rw [Nat.zero_mul, Nat.zero_add]

theorem trip3_lt (t : Fin k0_t3_loop.trips) : t.val < 512 := lt_of_lt_of_eq t.isLt trips3

/-- Lane `l` of step `t` works on pair `16 t + l`: the position of its index, -/
theorem pay3_at (t : Fin k0_t3_loop.trips) (l : Fin 16) : (k0_pay3 lanes t (ix1 l)).toNat = 16 * t.val + l.val := by
  have ht := trip3_lt t
  show (Scf.iv 0#32 1#32 t * 16#32 + lanes (ix1 l)).toNat = _
  rw [lanes_at]
  simp only [Scf.iv, BitVec.toNat_add, BitVec.toNat_mul, BitVec.toNat_ofNat]
  omega

/-- of the next pair's, -/
theorem pay4_at (t : Fin k0_t3_loop.trips) (l : Fin 16) : (k0_pay4 lanes t (ix1 l)).toNat = 16 * t.val + l.val + 1 := by
  have ht := trip3_lt t
  show (Scf.iv 0#32 1#32 t * 16#32 + 1#32 + lanes (ix1 l)).toNat = _
  rw [lanes_at]
  simp only [Scf.iv, BitVec.toNat_add, BitVec.toNat_mul, BitVec.toNat_ofNat]
  omega

/-- of its even part -/
theorem pay6_at (t : Fin k0_t3_loop.trips) (l : Fin 16) : (k0_pay6 lanes t (ix1 l)).toNat = 2 * (16 * t.val + l.val) := by
  have ht := trip3_lt t
  show (2#32 * (Scf.iv 0#32 1#32 t * 16#32) + 2#32 * lanes (ix1 l)).toNat = _
  rw [lanes_at]
  simp only [Scf.iv, BitVec.toNat_add, BitVec.toNat_mul, BitVec.toNat_ofNat]
  omega

/-- and of its odd part. -/
theorem pay7_at (t : Fin k0_t3_loop.trips) (l : Fin 16) : (k0_pay7 lanes t (ix1 l)).toNat = 2 * (16 * t.val + l.val) + 1 := by
  have ht := trip3_lt t
  show (2#32 * (Scf.iv 0#32 1#32 t * 16#32) + 2#32 * lanes (ix1 l) + 1#32).toNat = _
  rw [lanes_at]
  simp only [Scf.iv, BitVec.toNat_add, BitVec.toNat_mul, BitVec.toNat_ofNat]
  omega

/-- An index names two places: twice it, -/
theorem pay8_at (v : IVec S16 32) (l : Fin 16) (h : (v (ix1 l)).toNat < 16384) :
    (k0_pay8 (F := F) v (ix1 l)).toNat = 2 * (v (ix1 l)).toNat := by
  show (2#32 * v (ix1 l)).toNat = _
  simp only [BitVec.toNat_mul, BitVec.toNat_ofNat]
  omega

/-- and one past it. -/
theorem pay9_at (v : IVec S16 32) (l : Fin 16) (h : (v (ix1 l)).toNat < 16384) :
    (k0_pay9 (F := F) v (ix1 l)).toNat = 2 * (v (ix1 l)).toNat + 1 := by
  show (2#32 * v (ix1 l) + 1#32).toNat = _
  simp only [BitVec.toNat_add, BitVec.toNat_mul, BitVec.toNat_ofNat]
  omega

/-- The mask keeps the lanes whose index differs from the next one. -/
theorem pay5_at (v w : IVec S16 32) (l : Fin 16) :
    k0_pay5 (F := F) v w (ix1 l) = 1 ↔ (v (ix1 l)).toNat ≠ (w (ix1 l)).toNat := by
  show IntOp.cmpi .ne (v (ix1 l)) (w (ix1 l)) = 1 ↔ _
  rw [WordCmp.cmpi_ne_eq, WordCmp.ofBool_eq_one_iff', decide_eq_true_iff]
  exact not_congr BitVec.toNat_inj.symm

/-- One index vector names positions inside an array of `n` as soon as each lane does. -/
theorem chk_lanes {n : ℕ} (v : IVec S16 32) (h : ∀ l : Fin 16, (v (ix1 l)).toNat < n) :
    ∀ a x, ((![v] : Fin 1 → IVec S16 32) a x).toNat < (⟨1, ![n]⟩ : Shape).size a := by
  intro a x
  match a with
  | ⟨0, _⟩ =>
    have e : x = ix1 (x 0) := idx1_ext rfl
    show (v x).toNat < n
    rw [e]; exact h (x 0)

/-- An indexed load's lane is the entry at the lane's word. -/
theorem loadIdx_at {n : ℕ} (hn : 0 < n) {e : EltTy} (f : Vec F ⟨1, ![n]⟩ e) (v : IVec S16 32)
    (h : ∀ a x, ((![v] : Fin 1 → IVec S16 32) a x).toNat < (⟨1, ![n]⟩ : Shape).size a) (l : Fin 16) {k : ℕ} (hk : (v (ix1 l)).toNat = k) :
    loadIdx f ![v] h (ix1 l) = entry hn f k := by
  subst hk
  exact (entry_val hn f (idxAt ![v] h (ix1 l))).symm

variable [FloatOps F]

/-- The zero the kernel and the reference fill with. -/
abbrev zf : Elt F .f32 := Scalar.ofBits (F := F) .f32 0x00000000#32

/-- The whole result: place `q` of row `r` is the last of the row's pooled pairs whose index is `q / 2`, its part `q % 2`,
    or the zero. -/
def outSpec (x : Vec F S1024x16384 .f32) (ix : Vec F S1024x8192 .i32) : Vec F S1024x32768 .f32 := fun j =>
  rowOut (fun k => (cell (b := 8192) (by omega) ix (j 0) k).toNat) (cell (b := 16384) (by omega) x (j 0)) (zf (F := F)) 8192 (j 1).val

/-! ## A whole scratch rewritten through one rectangle -/

/-- Rewriting a whole buffer through a rectangle puts the payload's entry at each of the rectangle's places, -/
theorem writes_in {sig : RefSig} {κ : Kind} (b : Ref sig κ) (r : Rect b.ty.shape) (A : b.ty.Contents (Elt F)) (w : r.shape.Idx → Elt F b.ty.elt) (x : r.shape.Idx) :
    (Memref.whole b).view.writes (Elt F) A [⟨r, w⟩] (r.emb x) = w x :=
  View.write_emb_of_mem (v := (Memref.whole b).view.slice r) (Val := Elt F) A w (M := Finset.univ) (x := x) (Finset.mem_univ _)

/-- and leaves every other place. -/
theorem writes_out {sig : RefSig} {κ : Kind} (b : Ref sig κ) (r : Rect b.ty.shape) (A : b.ty.Contents (Elt F)) (w : r.shape.Idx → Elt F b.ty.elt)
    (i : b.ty.shape.Idx) (hi : ∀ x, r.emb x ≠ i) :
    (Memref.whole b).view.writes (Elt F) A [⟨r, w⟩] i = A i := by
  refine View.write_of_not_mem (v := (Memref.whole b).view.slice r) (Val := Elt F) A w Finset.univ fun h => ?_
  obtain ⟨x, _, hx⟩ := Finset.mem_map.mp h
  exact hi x hx

/-- The places of a run of `n` in a one-axis array. -/
theorem emb_run {N n : ℕ} (off : Fin 1 → ℕ) (inb : ∀ a, off a + (⟨1, ![n]⟩ : Shape).size a ≤ (⟨1, ![N]⟩ : Shape).size a)
    (x : (⟨1, ![n]⟩ : Shape).Idx) : ((Rect.unit (s := ⟨1, ![N]⟩) off (⟨1, ![n]⟩ : Shape).size inb).emb x 0).val = off 0 + (x 0).val := by
  show off 0 + 1 * (x 0).val = _
  rw [Nat.one_mul]

/-! ## A row of an array as its squeezed slice -/

/-- Entry `p` of row `R`, squeezed out of a two-axis array, is the array's entry `(R, p)`. -/
theorem row_emb {N : ℕ} (R : Fin 1024) (off : Fin 2 → ℕ) (inb : ∀ a, off a + (⟨2, ![1, N]⟩ : Shape).size a ≤ (⟨2, ![1024, N]⟩ : Shape).size a)
    (hq : (⟨1, ![N]⟩ : Shape).numel = (⟨2, ![1, N]⟩ : Shape).numel) (ho : off = ![R.val, 0]) (p : (⟨1, ![N]⟩ : Shape).Idx) :
    (Rect.unit (s := ⟨2, ![1024, N]⟩) off (⟨2, ![1, N]⟩ : Shape).size inb).emb (Shape.reshapeEquiv hq p) = ix2 R (p 0) := by
  subst ho
  have e : Shape.reshapeEquiv hq p = @ix2 1 N 0 (p 0) := Shape.reshapeEquiv_eq_of_rowMajor hq (by
    rw [Shape.rowMajor_val_two, Shape.rowMajor_val_one]
    show 0 * N + (p 0).val = (p 0).val
    rw [Nat.zero_mul, Nat.zero_add])
  rw [e]
  funext a
  match a with
  | ⟨0, _⟩ => exact Fin.ext (show R.val + 1 * 0 = R.val by omega)
  | ⟨1, _⟩ => exact Fin.ext (show 0 + 1 * (p 0).val = (p 0).val by omega)

theorem xRow_emb (L : grid0.Coords) (r : Fin k0_t1_loop.trips) (p : S16384.Idx) : (xRow L r).view.emb p = ix2 (rowFin L r) (p 0) :=
  row_emb (N := 16384) (rowFin L r) (k0_off1 L r) (k0_off1_inb L r) squeezes_S1x16384_S16384.numel_eq (k0_off1_eq L r) p
theorem iRow_emb (L : grid0.Coords) (r : Fin k0_t1_loop.trips) (p : S8192.Idx) : (iRow L r).view.emb p = ix2 (rowFin L r) (p 0) :=
  row_emb (N := 8192) (rowFin L r) (k0_off2 L r) (k0_off2_inb L r) squeezes_S1x8192_S8192.numel_eq (k0_off2_eq L r) p
theorem oRow_emb (L : grid0.Coords) (r : Fin k0_t1_loop.trips) (p : S32768.Idx) : (oRow L r).view.emb p = ix2 (rowFin L r) (p 0) :=
  row_emb (N := 32768) (rowFin L r) (k0_off4 L r) (k0_off4_inb L r) squeezes_S1x32768_S32768.numel_eq (k0_off4_eq L r) p

section Task

variable (d : Dev nD) (L : grid0.Coords)
variable (X : Buf (Elt F) (xLoc d)) (I : Buf (Elt F) (iLoc d)) (G : Buf (Elt F) (oLoc d))

/-- One row's share of the three arrays: the pooled values and the indices as they are, the result's row at `f`. -/
def rowPts (r : Fin k0_t1_loop.trips) (f : Buf (Elt F) (oLoc d)) : sProp 𝕄 :=
  iprop(((xRow L r).view.loc (tV d L) ↦[(xRow L r).view.set]{fullShare} X)
    ∗ ((iRow L r).view.loc (tV d L) ↦[(iRow L r).view.set]{fullShare} I)
    ∗ ((oRow L r).view.loc (tV d L) ↦[(oRow L r).view.set]{fullShare} f))

/-- What a trip of the row loop keeps: the scratches, the index scratch's last entries at the word that is no position,
    the three transfer semaphores at zero, and what the subcore owes. -/
def scr (O : CellTallies nD τ sig (HIx 1)) (W : Waits sig (HIx 1)) : sProp 𝕄 :=
  iprop(Transfers.MayWaits (tV d L) (none : HIx 1) O
    ∗ (∃ f, sX.view.loc (tV d L) ↦{fullShare} f)
    ∗ (∃ f : Vec F S8208 .i32, ⌜∀ p : S8208.Idx, 8192 ≤ (p 0).val → f p = 1073741824#32⌝ ∗ (sI.view.loc (tV d L) ↦{fullShare} f))
    ∗ (∃ f, sO.view.loc (tV d L) ↦{fullShare} f)
    ∗ semVal (tV d L, SemLoc.dma cc0_scoped0.sem) 0
    ∗ semVal (tV d L, SemLoc.dma cc0_scoped1.sem) 0
    ∗ semVal (tV d L, SemLoc.dma cc0_scoped2.sem) 0
    ∗ ∃ W', ⌜∀ p ∈ W', p ∈ W ∨ p.2 = none⌝ ∗ owes (tV d L) O W')

/-- One step of the scatter loop: sixteen pairs written into the result's scratch. -/
theorem scatter_trip (t : Fin k0_t3_loop.trips) (v1 : BitVec 32) (v3 : FVec F S16 .f32) (r : Fin k0_t1_loop.trips)
    (xs : Vec F S16384 .f32) (is : Vec F S8208 .i32) (his : ∀ p : S8208.Idx, (p 0).val < 8192 → (is p).toNat < 16384)
    (A : Vec F S32768 .f32)
    (hA : ∀ p : S32768.Idx, A p = keptOut (fun k => (entry (n := 8208) (by omega) is k).toNat) (entry (n := 16384) (by omega) xs) (zf (F := F)) (16 * t.val) (p 0).val) :
    iprop((sX.view.loc (tV d L) ↦{fullShare} xs) ∗ (sI.view.loc (tV d L) ↦{fullShare} is) ∗ (sO.view.loc (tV d L) ↦{fullShare} A))
      ⊢ (wp frame (wpE (defs₀ (F := F)) 𝒱₀ (tV d L) none) Set.univ
          (k0_t3_body L xV (Memref.isWhole_whole _) iV (Memref.isWhole_whole _) oV (Memref.isWhole_whole _)
            sX (Memref.isWhole_whole _) sI (Memref.isWhole_whole _) sO (Memref.isWhole_whole _) cc0_scoped0 cc0_scoped1 cc0_scoped2
            v1 lanes v3 0#32 1#32 r t ())
          fun _ => iprop((sX.view.loc (tV d L) ↦{fullShare} xs) ∗ (sI.view.loc (tV d L) ↦{fullShare} is)
            ∗ ∃ A' : Vec F S32768 .f32, ⌜∀ p : S32768.Idx, A' p = keptOut (fun k => (entry (n := 8208) (by omega) is k).toNat) (entry (n := 16384) (by omega) xs) (zf (F := F)) (16 * (t.val + 1)) (p 0).val⌝
              ∗ (sO.view.loc (tV d L) ↦{fullShare} A')) : sProp 𝕄) := by
  have ht := trip3_lt t
  have c1 : k0_chk1 (k0_pay3 lanes t) := chk_lanes _ fun l => by rw [pay3_at]; omega
  have c2 : k0_chk2 (k0_pay4 lanes t) := chk_lanes _ fun l => by rw [pay4_at]; omega
  have c3 : k0_chk3 (k0_pay6 lanes t) := chk_lanes _ fun l => by rw [pay6_at]; omega
  have c4 : k0_chk4 (k0_pay7 lanes t) := chk_lanes _ fun l => by rw [pay7_at]; omega
  have rX : ∀ f : Vec F S16384 .f32, (sX.access (.whole S16384)).read (Elt F) f = f := Memref.read_access_whole (Elt F) cc0_scratch0
  have rI : ∀ f : Vec F S8208 .i32, (sI.access (.whole S8208)).read (Elt F) f = f := Memref.read_access_whole (Elt F) cc0_scratch1
  have rO : ∀ f : Vec F S32768 .f32, (sO.access (.whole S32768)).read (Elt F) f = f := Memref.read_access_whole (Elt F) cc0_scratch2
  have wO : ∀ f w : Vec F S32768 .f32, (sO.access (.whole S32768)).write (Elt F) f w Finset.univ = w := Memref.write_access_whole_univ (Elt F) cc0_scratch2
  unfold k0_t3_body
  iintro ⟨Hx, Hi, Ho⟩
  sl_exec
  iapply (SparseCore.wp_vectorLoadIdx 𝒱₀ (tV d L) none Set.univ (base := sI) (S := Finset.univ) (q := fullShare) (Finset.subset_univ _)) $$ Hi
  iintro Hi
  generalize e14 : loadIdx ((sI.access (.whole S8208)).read (Elt F) is) ![k0_pay3 lanes t] c1 = v14
  have h14 : ∀ l : Fin 16, v14 (ix1 l) = entry (by omega) is (16 * t.val + l.val) := fun l => by
    rw [← e14]
    exact (loadIdx_at (by omega) _ _ _ l (pay3_at t l)).trans (congrArg (fun f => entry _ f _) (rI is))
  sl_exec
  iapply (SparseCore.wp_vectorLoadIdx 𝒱₀ (tV d L) none Set.univ (base := sI) (S := Finset.univ) (q := fullShare) (Finset.subset_univ _)) $$ Hi
  iintro Hi
  generalize e18 : loadIdx ((sI.access (.whole S8208)).read (Elt F) is) ![k0_pay4 lanes t] c2 = v18
  have h18 : ∀ l : Fin 16, v18 (ix1 l) = entry (by omega) is (16 * t.val + l.val + 1) := fun l => by
    rw [← e18]
    exact (loadIdx_at (by omega) _ _ _ l (pay4_at t l)).trans (congrArg (fun f => entry _ f _) (rI is))
  sl_exec
  iapply (SparseCore.wp_vectorLoadIdx 𝒱₀ (tV d L) none Set.univ (base := sX) (S := Finset.univ) (q := fullShare) (Finset.subset_univ _)) $$ Hx
  iintro Hx
  generalize e25 : loadIdx ((sX.access (.whole S16384)).read (Elt F) xs) ![k0_pay6 lanes t] c3 = v25
  have h25 : ∀ l : Fin 16, v25 (ix1 l) = entry (by omega) xs (2 * (16 * t.val + l.val)) := fun l => by
    rw [← e25]
    exact (loadIdx_at (by omega) _ _ _ l (pay6_at t l)).trans (congrArg (fun f => entry _ f _) (rX xs))
  sl_exec
  iapply (SparseCore.wp_vectorLoadIdx 𝒱₀ (tV d L) none Set.univ (base := sX) (S := Finset.univ) (q := fullShare) (Finset.subset_univ _)) $$ Hx
  iintro Hx
  generalize e33 : loadIdx ((sX.access (.whole S16384)).read (Elt F) xs) ![k0_pay7 lanes t] c4 = v33
  have h33 : ∀ l : Fin 16, v33 (ix1 l) = entry (by omega) xs (2 * (16 * t.val + l.val) + 1) := fun l => by
    rw [← e33]
    exact (loadIdx_at (by omega) _ _ _ l (pay7_at t l)).trans (congrArg (fun f => entry _ f _) (rX xs))
  have hlt : ∀ l : Fin 16, (v14 (ix1 l)).toNat < 16384 := fun l => by
    rw [h14]
    refine his _ ?_
    show (16 * t.val + l.val) % 8208 < 8192
    omega
  have c5 : k0_chk5 (k0_pay8 (F := F) v14) := chk_lanes _ fun l => by rw [pay8_at v14 l (hlt l)]; have := hlt l; omega
  have c6 : k0_chk6 (k0_pay9 (F := F) v14) := chk_lanes _ fun l => by rw [pay9_at v14 l (hlt l)]; have := hlt l; omega
  have es : (sO.access (.whole S32768)).set = Finset.univ := Memref.set_access_whole cc0_scratch2
  have eo : ∀ f : Vec F S32768 .f32, (sO.view.loc (tV d L) ↦{fullShare} f : sProp 𝕄)
      = ((sO.access (.whole S32768)).loc (tV d L) ↦[(sO.access (.whole S32768)).set]{fullShare} f) := fun f => by rw [es]
  sl_exec
  ihave Ho' := (Entails.of_eq (eo A)) $$ Ho
  iapply (SparseCore.wp_vectorStoreIdx 𝒱₀ (tV d L) none Set.univ (base := sO)) $$ Ho'
  iintro Ho
  sl_exec
  iapply (SparseCore.wp_vectorStoreIdx 𝒱₀ (tV d L) none Set.univ (base := sO)) $$ Ho
  iintro Ho
  sl_exec
  sl_step
  rw [rO, wO, wO, rO]
  isplitl [Hx]; · iexact Hx
  isplitl [Hi]; · iexact Hi
  iexists (storeIdx (storeIdx A ![k0_pay8 (F := F) v14] v25 (k0_pay5 (F := F) v14 v18) false c5) ![k0_pay9 (F := F) v14] v33 (k0_pay5 (F := F) v14 v18) false c6)
  isplitr
  · ipureintro
    exact scatter_step _ _ _ _ A hA _ _ _ _ _ c5 c6 (fun l => (pay8_at v14 l (hlt l)).trans (by rw [h14]))
      (fun l => (pay9_at v14 l (hlt l)).trans (by rw [h14])) h25 h33 fun l => (pay5_at v14 v18 l).trans (by rw [h14, h18])
  · ihave Ho' := (Entails.of_eq (eo _).symm) $$ Ho
    iexact Ho'

/-- One step of the clearing loop: sixteen places of the result's scratch set to the zero. -/
theorem zero_trip (t : Fin k0_t2_loop.trips) (v1 : BitVec 32) (r : Fin k0_t1_loop.trips) (A : Vec F S32768 .f32)
    (hA : ∀ p : S32768.Idx, (p 0).val < 16 * t.val → A p = zf (F := F)) :
    iprop(sO.view.loc (tV d L) ↦{fullShare} A)
      ⊢ (wp frame (wpE (defs₀ (F := F)) 𝒱₀ (tV d L) none) Set.univ
          (k0_t2_body L xV (Memref.isWhole_whole _) iV (Memref.isWhole_whole _) oV (Memref.isWhole_whole _)
            sX (Memref.isWhole_whole _) sI (Memref.isWhole_whole _) sO (Memref.isWhole_whole _) cc0_scoped0 cc0_scoped1 cc0_scoped2
            v1 lanes (k0_pay1 (F := F)) 0#32 1#32 r t ())
          fun _ => iprop(∃ A' : Vec F S32768 .f32, ⌜∀ p : S32768.Idx, (p 0).val < 16 * (t.val + 1) → A' p = zf (F := F)⌝
              ∗ (sO.view.loc (tV d L) ↦{fullShare} A')) : sProp 𝕄) := by
  unfold k0_t2_body
  iintro Ho
  sl_exec
  sl_step
  iexists _
  isplitr
  rotate_left
  · iexact Ho
  · ipureintro
    intro p hp
    have ho : k0_off3 t 0 = 16 * t.val := by rw [k0_off3_eq]; rfl
    by_cases h : 16 * t.val ≤ (p 0).val
    · have e : (Rect.unit (s := S32768) (k0_off3 t) S16.size (k0_off3_inb t)).emb (ix1 ⟨(p 0).val - 16 * t.val, by omega⟩) = p :=
        idx1_ext (by rw [emb_run, ho]; show 16 * t.val + ((p 0).val - 16 * t.val) = _; omega)
      rw [← e]
      exact writes_in cc0_scratch2 _ A _ _
    · refine (writes_out cc0_scratch2 _ A _ p fun x hx => h ?_).trans (hA p (by omega))
      rw [← hx, emb_run, ho]; exact Nat.le_add_right _ _

/-- What the clearing loop keeps: the places before the current sixteen hold the zero. -/
def zinv : ℕ → Unit → sProp 𝕄 := fun k _ =>
  iprop(∃ A : Vec F S32768 .f32, ⌜∀ p : S32768.Idx, (p 0).val < 16 * k → A p = zf (F := F)⌝ ∗ (sO.view.loc (tV d L) ↦{fullShare} A))

/-- What the scatter loop keeps: the fetched row, and the result's scratch as the pairs before the current sixteen leave it. -/
def sinv (xs : Vec F S16384 .f32) (is : Vec F S8208 .i32) : ℕ → Unit → sProp 𝕄 := fun k _ =>
  iprop((sX.view.loc (tV d L) ↦{fullShare} xs) ∗ (sI.view.loc (tV d L) ↦{fullShare} is)
    ∗ ∃ A : Vec F S32768 .f32, ⌜∀ p : S32768.Idx, A p = keptOut (fun k => (entry (n := 8208) (by omega) is k).toNat) (entry (n := 16384) (by omega) xs) (zf (F := F)) (16 * k) (p 0).val⌝
      ∗ (sO.view.loc (tV d L) ↦{fullShare} A))

/-- The result's scratch after the scatter loop is the row of the result: the scratches hold the row's values and indices, and
    the entry after the last index is no position. -/
theorem scratch_row (r : Fin k0_t1_loop.trips) (xs : Vec F S16384 .f32) (is : Vec F S8208 .i32) (B : Vec F S32768 .f32)
    (hxs : ∀ p : S16384.Idx, xs p = X (ix2 (rowFin L r) (p 0)))
    (hsent : ∀ p : S8208.Idx, 8192 ≤ (p 0).val → is p = 1073741824#32)
    (his : ∀ (p : S8208.Idx) (hp : (p 0).val < 8192), is p = I (ix2 (rowFin L r) ⟨(p 0).val, hp⟩))
    (hB : ∀ p : S32768.Idx, B p = keptOut (fun k => (entry (n := 8208) (by omega) is k).toNat) (entry (n := 16384) (by omega) xs) (zf (F := F)) (16 * 512) (p 0).val)
    (p : S32768.Idx) : B p = outSpec X I (ix2 (rowFin L r) (p 0)) := by
  have hp : (p 0).val < 32768 := (p 0).isLt
  rw [hB, keptOut_eq]
  · refine rowOut_congr (fun k hk => congrArg BitVec.toNat ?_) fun k hk => ?_
    · unfold entry
      rw [his _ (show k % 8208 < 8192 by omega)]
      refine congrArg I (congrArg (ix2 (rowFin L r)) (Fin.ext ?_))
      show k % 8208 = k % 8192
      omega
    · unfold entry
      rw [hxs]
      rfl
  · show (entry (n := 8208) (by omega) is (16 * 512)).toNat ≠ _
    unfold entry
    rw [hsent _ (show 8192 ≤ (16 * 512) % 8208 by omega)]
    show 1073741824 ≠ _
    omega

/-- A row of the result's array rewritten whole holds the payload. -/
theorem oRow_write (r : Fin k0_t1_loop.trips) (f₀ : Buf (Elt F) (oLoc d)) (w : Vec F S32768 .f32) (g : Buf (Elt F) (oLoc d))
    (h : ∀ p : S32768.Idx, w p = g (ix2 (rowFin L r) (p 0))) (i : Idx (oLoc d)) (hi : i ∈ (oRow L r).view.set) :
    (oRow L r).view.writes (Elt F) f₀ [⟨Rect.whole S32768, w⟩] i = g i := by
  obtain ⟨p, _, rfl⟩ := Finset.mem_map.mp hi
  have e : ((oRow L r).view.slice (Rect.whole S32768)).emb p = (oRow L r).view.emb p := congrArg (oRow L r).view.emb (Rect.emb_whole_apply S32768 p)
  refine (congrArg _ e.symm).trans ((View.write_emb_of_mem (v := (oRow L r).view.slice (Rect.whole S32768)) (Val := Elt F) f₀ w (M := Finset.univ) (x := p) (Finset.mem_univ _)).trans ?_)
  exact (h p).trans (congrArg g (oRow_emb L r p).symm)

/-- One trip of the row loop. -/
theorem row_trip (hI : ∀ i : S1024x8192.Idx, BitVec.toNat (w := 32) (I i) < 16384) (r : Fin k0_t1_loop.trips) (f₀ : Buf (Elt F) (oLoc d)) (O : CellTallies nD τ sig (HIx 1)) (W : Waits sig (HIx 1)) (v1 : BitVec 32) :
    iprop(rowPts d L X I r f₀ ∗ scr d L O W)
      ⊢ wp frame (wpE (defs₀ (F := F)) 𝒱₀ (tV d L) none) Set.univ
          (k0_t1_body L xV (Memref.isWhole_whole _) iV (Memref.isWhole_whole _) oV (Memref.isWhole_whole _)
            sX (Memref.isWhole_whole _) sI (Memref.isWhole_whole _) sO (Memref.isWhole_whole _) cc0_scoped0 cc0_scoped1 cc0_scoped2
            v1 lanes r ())
          fun _ => iprop(rowPts d L X I r (outSpec X I) ∗ scr d L O W) := by
  unfold rowPts scr k0_t1_body
  rw [k0_part1_eq_skeleton]; unfold k0_part1_skel
  iintro ⟨⟨Hx, Hi, Ho⟩, Hmw, ⟨%fx, Hsx⟩, ⟨%fi, %hfi, Hsi⟩, ⟨%fo, Hso⟩, Hs0, Hs1, Hs2, %W', %hW', HO⟩
  sl_exec (disch := first | exact View.amount_pos _ _ (show 0 < S16384.numel by decide) | exact View.amount_pos _ _ (show 0 < S8192.numel by decide) | exact View.amount_pos _ _ (show 0 < S32768.numel by decide))
  ihave Hsx' : iprop(∃ xs : Vec F S16384 .f32, ⌜∀ p : S16384.Idx, xs p = X (ix2 (rowFin L r) (p 0))⌝ ∗ (sX.view.loc (tV d L) ↦{fullShare} xs)) $$ [Hsx]
  · iexists _
    isplitr
    rotate_left
    · iexact Hsx
    · ipureintro
      intro p
      refine (congrFun (View.write_whole_univ (Val := Elt F) cc0_scratch0 fx _) p).trans ?_
      exact congrArg X (xRow_emb L r p)
  ihave Hsi' : iprop(∃ is : Vec F S8208 .i32, ⌜(∀ p : S8208.Idx, 8192 ≤ (p 0).val → is p = 1073741824#32)
      ∧ ∀ (p : S8208.Idx) (hp : (p 0).val < 8192), is p = I (ix2 (rowFin L r) ⟨(p 0).val, hp⟩)⌝ ∗ (sI.view.loc (tV d L) ↦{fullShare} is)) $$ [Hsi]
  · iexists _
    isplitr
    rotate_left
    · iexact Hsi
    · ipureintro
      refine ⟨fun p hp => (writes_out cc0_scratch1 _ fi _ p fun x hx => ?_).trans (hfi p hp), fun p hp => ?_⟩
      · have h1 : (p 0).val = 0 + (x 0).val := by rw [← hx, emb_run]; rfl
        have h2 : (x 0).val < 8192 := (x 0).isLt
        omega
      · have e : (Rect.unit (s := S8208) ![0] S8192.size inb_S8208_S8192_0).emb (ix1 ⟨(p 0).val, hp⟩) = p :=
          idx1_ext (by rw [emb_run]; show 0 + (p 0).val = _; omega)
        refine (congrArg _ e.symm).trans ((writes_in cc0_scratch1 _ fi _ _).trans ?_)
        exact congrArg I (iRow_emb L r _)
  icases Hsx' with ⟨%xs, %hxs, Hsx⟩
  icases Hsi' with ⟨%is, %his, Hsi⟩
  have hlt : ∀ p : S8208.Idx, (p 0).val < 8192 → (is p).toNat < 16384 := fun p hp => by rw [his.2 p hp]; exact hI _
  rw [Prog.bind_assoc]
  sl_for (zinv d L) $$ [Hso]
  case region =>
    intro k _
    unfold zinv
    iintro ⟨%A, %hA, Hso⟩
    iapply (zero_trip d L k v1 r A hA) $$ Hso
  · unfold zinv
    iexists fo
    isplitr
    · ipureintro; intro p hp; omega
    · iexact Hso
  iintro %_ HI
  unfold zinv
  icases HI with ⟨%A, %hA, Hso⟩
  unfold row_trip.sl.prog.cont_1
  rw [Prog.bind_assoc]
  sl_for (sinv d L xs is) $$ [Hsx Hsi Hso]
  case region =>
    intro k _
    unfold sinv
    iintro ⟨Hsx, Hsi, %A, %hA, Hso⟩
    iapply (scatter_trip d L k v1 k0_pay1 r xs is hlt A hA) $$ [Hsx Hsi Hso]
    isplitl [Hsx]; · iexact Hsx
    isplitl [Hsi]; · iexact Hsi
    iexact Hso
  · unfold sinv
    isplitl [Hsx]; · iexact Hsx
    isplitl [Hsi]; · iexact Hsi
    iexists A
    isplitr
    · ipureintro
      intro p
      refine (hA p ?_).trans rfl
      exact lt_of_lt_of_eq (p 0).isLt (congrArg (16 * ·) trips2).symm
    · iexact Hso
  iintro %_ HI
  unfold sinv
  icases HI with ⟨Hsx, Hsi, %B, %hB, Hso⟩
  sl_exec (disch := first | exact View.amount_pos _ _ (show 0 < S16384.numel by decide) | exact View.amount_pos _ _ (show 0 < S8192.numel by decide) | exact View.amount_pos _ _ (show 0 < S32768.numel by decide))
  sl_step
  ihave Ho' := (Entails.of_eq (pointsTo_congr (ℓ := (oRow L r).view.loc (tV d L)) (q := fullShare) (oRow_write d L r f₀ (row_trip.sl.dma0_2 B) (outSpec X I)
    (scratch_row d L X I r xs is B hxs his.1 his.2 (fun p => (hB p).trans (congrArg (fun n => keptOut _ _ _ (16 * n) _) trips3)))))) $$ Ho
  isplitl [Hx Hi Ho']
  · isplitl [Hx]; · iexact Hx
    isplitl [Hi]; · iexact Hi
    iexact Ho'
  isplitl [Hmw]; · iexact Hmw
  isplitl [Hsx]; · iexists _; iexact Hsx
  isplitl [Hsi]
  · iexists is
    isplitr
    · ipureintro; exact his.1
    · iexact Hsi
  isplitl [Hso]; · iexists _; iexact Hso
  isplitl [Hs0]; · iexact Hs0
  isplitl [Hs1]; · iexact Hs1
  isplitl [Hs2]; · iexact Hs2
  iexists _
  isplitr
  rotate_left
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp

/-! ## The task -/

/-- All the rows of a task. -/
def tilePts (f : Buf (Elt F) (oLoc d)) : sProp 𝕄 := bigSep Finset.univ fun r : Fin k0_t1_loop.trips => rowPts d L X I r f

/-- What the row loop keeps: the rows done hold the result, the others what they held at first. -/
def rinv (f₀ : Buf (Elt F) (oLoc d)) (O : CellTallies nD τ sig (HIx 1)) (W : Waits sig (HIx 1)) : ℕ → Unit → sProp 𝕄 := fun k _ =>
  iprop((bigSep Finset.univ fun r : Fin k0_t1_loop.trips => rowPts d L X I r (if r.val < k then outSpec X I else f₀)) ∗ scr d L O W)

/-- A row's turn: the row is taken out of all the rows, and goes back holding the result. -/
theorem rows_step (f₀ g : Buf (Elt F) (oLoc d)) (k : Fin k0_t1_loop.trips) :
    (bigSep Finset.univ fun r : Fin k0_t1_loop.trips => rowPts d L X I r (if r.val < k.val then g else f₀) : sProp 𝕄)
      ⊢ iprop(rowPts d L X I k f₀ ∗ (rowPts d L X I k g
          -∗ bigSep Finset.univ fun r : Fin k0_t1_loop.trips => rowPts d L X I r (if r.val < k.val + 1 then g else f₀))) := by
  rw [SparseCore.bigSep_erase' (Finset.mem_univ k),
    SparseCore.bigSep_erase' (Φ := fun r : Fin k0_t1_loop.trips => rowPts d L X I r (if r.val < k.val + 1 then g else f₀)) (Finset.mem_univ k),
    if_neg (Nat.lt_irrefl k.val), if_pos (Nat.lt_succ_self k.val),
    bigSep_congr (s := Finset.univ.erase k) (Ψ := fun r : Fin k0_t1_loop.trips => rowPts d L X I r (if r.val < k.val + 1 then g else f₀)) fun r hr => by
      have hne : r.val ≠ k.val := fun e => (Finset.mem_erase.mp hr).1 (Fin.ext e)
      exact congrArg _ (if_congr ⟨fun h => by omega, fun h => by omega⟩ rfl rfl)]
  iintro ⟨Hk, Hrest⟩
  isplitl [Hk]; · iexact Hk
  iintro Hk
  isplitl [Hk]; · iexact Hk
  iexact Hrest

/-- Three members taken out of a separating conjunction. -/
theorem bigSep_three {ι : Type} [DecidableEq ι] {s : Finset ι} (Φ : ι → sProp 𝕄) {a b c : ι} (ha : a ∈ s) (hb : b ∈ s) (hc : c ∈ s)
    (hba : b ≠ a) (hca : c ≠ a) (hcb : c ≠ b) :
    bigSep s Φ = iprop(Φ a ∗ Φ b ∗ Φ c ∗ bigSep (((s.erase a).erase b).erase c) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩)]

/-- A scratch of the subcore is among its own buffers. -/
theorem mem_own (b : Ref sig .scVector) (h : ((Proc.scVector (cV L) (jV L)).devRef b).owner = .proc (.scVector (cV L) (jV L))) :
    (Proc.scVector (cV L) (jV L)).devRef b ∈ ownRefs (τ := τ) (.scVector (cV L) (jV L)) :=
  SparseCore.Cfg.mem_ownRefs_of_owner h

/-- The subcore's buffers are the three scratches and the rest. -/
theorem ownBufs_three :
    (ownBufs (tV d L) : sProp 𝕄)
      = iprop((∃ f, sX.view.loc (tV d L) ↦{fullShare} f) ∗ (∃ f, sI.view.loc (tV d L) ↦{fullShare} f) ∗ (∃ f, sO.view.loc (tV d L) ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) :=
  bigSep_three (fun b : DevRef τ sig => iprop(∃ f, ((d, b) : Loc nD τ sig) ↦{fullShare} f)) (mem_own L cc0_scratch0 rfl) (mem_own L cc0_scratch1 rfl) (mem_own L cc0_scratch2 rfl)
    (fun e => absurd (Proc.devRef_injective _ e) (show (cc0_scratch1 : Ref sig .scVector) ≠ cc0_scratch0 by decide))
    (fun e => absurd (Proc.devRef_injective _ e) (show (cc0_scratch2 : Ref sig .scVector) ≠ cc0_scratch0 by decide))
    (fun e => absurd (Proc.devRef_injective _ e) (show (cc0_scratch2 : Ref sig .scVector) ≠ cc0_scratch1 by decide))

/-- A transfer semaphore of the subcore. -/
abbrev dmaCell (s : DmaSem sig) : GSem nD τ sig := (tV d L, .dma s)

/-- The subcore's semaphores are the three transfers' and the rest. -/
theorem ownSems_three :
    (ownSems0 (tV d L) : sProp 𝕄)
      = iprop(semVal (dmaCell d L cc0_scoped0.sem) 0 ∗ semVal (dmaCell d L cc0_scoped1.sem) 0 ∗ semVal (dmaCell d L cc0_scoped2.sem) 0
          ∗ bigSep ((((ownCells (tV d L)).erase (dmaCell d L cc0_scoped0.sem)).erase (dmaCell d L cc0_scoped1.sem)).erase (dmaCell d L cc0_scoped2.sem))
              fun g => semVal g 0) :=
  bigSep_three (fun g : GSem nD τ sig => semVal g 0)
    (mem_ownCells.mpr ⟨rfl, show (SemLoc.dma cc0_scoped0.sem : SemLoc sig).isScoped .scVector = true by decide⟩)
    (mem_ownCells.mpr ⟨rfl, show (SemLoc.dma cc0_scoped1.sem : SemLoc sig).isScoped .scVector = true by decide⟩)
    (mem_ownCells.mpr ⟨rfl, show (SemLoc.dma cc0_scoped2.sem : SemLoc sig).isScoped .scVector = true by decide⟩)
    (fun e => absurd (congrArg Prod.snd e) (show (SemLoc.dma cc0_scoped1.sem : SemLoc sig) ≠ .dma cc0_scoped0.sem by decide))
    (fun e => absurd (congrArg Prod.snd e) (show (SemLoc.dma cc0_scoped2.sem : SemLoc sig) ≠ .dma cc0_scoped0.sem by decide))
    (fun e => absurd (congrArg Prod.snd e) (show (SemLoc.dma cc0_scoped2.sem : SemLoc sig) ≠ .dma cc0_scoped1.sem by decide))

/-- The whole task: the words that are no position put after the index scratch, then the thirty-two rows. It brings back the
    rows, the result's at `outSpec`, and everything of the subcore's own. -/
theorem tile_body (hF : (K (F := F)).Facts) (hI : ∀ i : S1024x8192.Idx, BitVec.toNat (w := 32) (I i) < 16384) (f₀ : Buf (Elt F) (oLoc d))
    (O : CellTallies nD τ sig (HIx 1)) (W : Waits sig (HIx 1)) (hO : ∀ g, O g none = 0) :
    iprop(levAts (K (F := F)).L (K (F := F)).lev ∗ emp ∗ tilePts d L X I f₀
        ∗ scopedBufs (tV d L) ∗ scopedSems0 (tV d L) ∗ owes (tV d L) O W)
      ⊢ wp frame (wpE (defs₀ (F := F)) 𝒱₀ (tV d L) none) Set.univ
          (cc0_k L xV (Memref.isWhole_whole _) iV (Memref.isWhole_whole _) oV (Memref.isWhole_whole _)
            sX (Memref.isWhole_whole _) sI (Memref.isWhole_whole _) sO (Memref.isWhole_whole _) cc0_scoped0 cc0_scoped1 cc0_scoped2)
          fun _ => iprop(tilePts d L X I (outSpec X I) ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V hF d (cV L) (jV L), SparseCore.Cfg.scopedSems0_V (Val := Elt F) d (cV L) (jV L), ownSems_three, ownBufs_three]
  rw [cc0_k_eq_skeleton]; unfold cc0_k_skel
  iintro ⟨#Hlv, -, Hrows, ⟨⟨%fx, Hsx⟩, ⟨%fi, Hsi⟩, ⟨%fo, Hso⟩, Hbufs⟩, ⟨Hs0, Hs1, Hs2, Hsems⟩, HO⟩
  ihave Hmw := (show levAts (K (F := F)).L (K (F := F)).lev ⊢ Transfers.MayWaits (tV d L) (none : HIx 1) O from
    (K (F := F)).mayWaits_none (thr := tV d L) hO) $$ Hlv
  sl_exec
  sl_for (rinv d L X I f₀ O W) $$ [Hrows Hmw Hsx Hsi Hso Hs0 Hs1 Hs2 HO]
  case region =>
    intro k _
    unfold rinv
    iintro ⟨Hrows, Hscr⟩
    ihave H := (rows_step d L X I f₀ (outSpec X I) k) $$ Hrows
    icases H with ⟨Hk, Hback⟩
    iapply (wp_wand_r Idealize.ShloMosaic.frame (wpE (defs₀ (F := F)) 𝒱₀ (tV d L) none) Set.univ)
    isplitl [Hk Hscr]
    · iapply (row_trip d L X I hI k f₀ O W _)
      isplitl [Hk] <;> iassumption
    iintro %_ ⟨Hk, Hscr⟩
    isplitl [Hk Hback]
    · iapply Hback $$ [Hk]; iexact Hk
    · iexact Hscr
  · unfold rinv scr tilePts
    isplitl [Hrows]
    · iapply (Entails.of_eq (bigSep_congr fun r _ => congrArg (rowPts d L X I r) (if_neg (Nat.not_lt_zero r.val)).symm)) $$ [Hrows]
      iexact Hrows
    isplitl [Hmw]; · iexact Hmw
    isplitl [Hsx]; · iexists _; iexact Hsx
    isplitl [Hsi]
    · iexists _
      isplitr
      rotate_left
      · iexact Hsi
      · ipureintro
        intro p hp
        have hlt : (p 0).val < 8208 := (p 0).isLt
        have e : (Rect.unit (s := S8208) ![8192] S16.size inb_S8208_S16_8192).emb (ix1 ⟨(p 0).val - 8192, by omega⟩) = p :=
          idx1_ext (by rw [emb_run]; show 8192 + ((p 0).val - 8192) = _; omega)
        exact (congrArg _ e.symm).trans (writes_in cc0_scratch1 _ fi _ _)
    isplitl [Hso]; · iexists _; iexact Hso
    isplitl [Hs0]; · iexact Hs0
    isplitl [Hs1]; · iexact Hs1
    isplitl [Hs2]; · iexact Hs2
    iexists W
    isplitr
    · ipureintro; exact fun p hp => .inl hp
    · iexact HO
  iintro %_ HI
  unfold rinv scr tilePts
  icases HI with ⟨Hrows, -, Hsx, ⟨%f, -, Hsi⟩, Hso, Hs0, Hs1, Hs2, %W', %hW', HO⟩
  sl_step
  isplitl [Hrows]
  · iapply (Entails.of_eq (bigSep_congr fun r _ => congrArg (rowPts d L X I r) (if_pos r.isLt))) $$ [Hrows]
    iexact Hrows
  isplitl [Hsx Hsi Hso Hbufs]
  · isplitl [Hsx]; · iexact Hsx
    isplitl [Hsi]; · iexists _; iexact Hsi
    isplitl [Hso]; · iexact Hso
    iexact Hbufs
  isplitl [Hs0 Hs1 Hs2 Hsems]
  · isplitl [Hs0]; · iexact Hs0
    isplitl [Hs1]; · iexact Hs1
    isplitl [Hs2]; · iexact Hs2
    iexact Hsems
  iexists W'
  isplitr
  · ipureintro; exact fun p hp => (hW' p hp).imp_right .inl
  · iexact HO

end Task

end Cert.Proof.KernelIdealRun

end

end
-- ==== Proof.KernelIdealRun.lean ====
/-
  The whole run of the unpooling kernel's program: two reshapes, the call, which hands each of the thirty-two vector subcores
  its own thirty-two rows of the three arrays and takes them back, and the reshape of the result. Every execution ends, the two
  arguments as they were, every semaphore at zero, and the result at the reshape of `outSpec` (Proof/KernelIdealTask.lean).
-/
module

public import proofs.«01_k».proof.Proof.KernelIdealTask

@[expose] public section

set_option maxRecDepth 16384

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix1 ix2)
open Cert.Proof.Scatter

variable {F : FTy → Type}

local notation "𝕄" => MT nD τ sig (HIx 1) (Elt F) ℕ UU ℕ

variable [FloatOps F]

/-! ## The rows of the arrays, over the whole grid -/

/-- The grid coordinates of the vector subcore `s` of SparseCore `c`. -/
def coordsV (c : Fin (grid0.bound 0)) (s : Fin (grid0.bound 1)) : grid0.Coords := fun
  | 0 => c
  | 1 => s
  | ⟨_ + 2, h⟩ => absurd h (Nat.not_lt.2 (Nat.le_add_left _ _))

/-- A SparseCore, a vector subcore of it and a trip of its row loop. -/
abbrev RowIx : Type := (Fin (grid0.bound 0) × Fin (grid0.bound 1)) × Fin k0_t1_loop.trips

/-- The number of the row that trip works on. -/
def rowAt (t : RowIx) : ℕ := rowNo (coordsV t.1.1 t.1.2) t.2

theorem rowAt_eq (t : RowIx) : rowAt t = 64 * t.1.2.val + 32 * t.1.1.val + t.2.val := rfl

/-- No two trips work on the same row, -/
theorem rowAt_inj {t u : RowIx} (h : rowAt t = rowAt u) : t = u := by
  obtain ⟨⟨c, s⟩, r⟩ := t
  obtain ⟨⟨c', s'⟩, r'⟩ := u
  rw [rowAt_eq, rowAt_eq] at h
  have hc : c.val < 2 := c.isLt
  have hc' : c'.val < 2 := c'.isLt
  have hr : r.val < 32 := lt_of_lt_of_eq r.isLt trips1
  have hr' : r'.val < 32 := lt_of_lt_of_eq r'.isLt trips1
  dsimp only at h
  have e1 : c = c' := Fin.ext (by omega)
  have e2 : s = s' := Fin.ext (by omega)
  have e3 : r = r' := Fin.ext (by omega)
  rw [e1, e2, e3]

/-- and every row has its trip. -/
theorem rowAt_surj (n : Fin 1024) : ∃ t, rowAt t = n.val := by
  have hn := n.isLt
  refine ⟨((⟨n.val / 32 % 2, show _ < 2 by omega⟩, ⟨n.val / 64, show _ < 16 by omega⟩), ⟨n.val % 32, lt_of_lt_of_eq (show _ < 32 by omega) trips1.symm⟩), ?_⟩
  rw [rowAt_eq]
  show 64 * (n.val / 64) + 32 * (n.val / 32 % 2) + n.val % 32 = n.val
  omega

/-- An array cut into parts, one to a row, is its parts. -/
theorem split_rows (ℓ : Loc nD τ sig) (f : Buf (Elt F) ℓ) (no : Idx ℓ → Fin 1024) (part : RowIx → Finset (Idx ℓ))
    (h : ∀ t j, j ∈ part t ↔ (no j).val = rowAt t) :
    (ℓ ↦{fullShare} f : sProp 𝕄)
      = bigSep Finset.univ fun c => bigSep Finset.univ fun s => bigSep Finset.univ fun r => ℓ ↦[part ((c, s), r)]{fullShare} f := by
  have hU : (Finset.univ : Finset RowIx).biUnion part = Finset.univ := Finset.eq_univ_of_forall fun j => by
    obtain ⟨t, ht⟩ := rowAt_surj (no j)
    exact Finset.mem_biUnion.mpr ⟨t, Finset.mem_univ _, (h t j).mpr ht.symm⟩
  have hd : ∀ t ∈ (Finset.univ : Finset RowIx), ∀ u ∈ (Finset.univ : Finset RowIx), t ≠ u → Disjoint (part t) (part u) := fun t _ u _ hne =>
    Finset.disjoint_left.mpr fun j ht hu => hne (rowAt_inj (((h t j).mp ht).symm.trans ((h u j).mp hu)))
  have e : (ℓ ↦[(Finset.univ : Finset RowIx).biUnion part]{fullShare} f : sProp 𝕄) = bigSep Finset.univ fun t => ℓ ↦[part t]{fullShare} f :=
    pointsTo_biUnion Finset.univ part hd
  rw [hU] at e
  refine e.trans ?_
  rw [← Finset.univ_product_univ, SparseCore.bigSep_product, ← Finset.univ_product_univ, SparseCore.bigSep_product]

/-- The places of a two-axis array that a row's own places go to are those of that row. -/
theorem mem_row {N : ℕ} (R : Fin 1024) (v : (⟨1, ![N]⟩ : Shape).Idx ↪ (⟨2, ![1024, N]⟩ : Shape).Idx) (hv : ∀ p, v p = ix2 R (p 0))
    (j : (⟨2, ![1024, N]⟩ : Shape).Idx) : j ∈ Finset.univ.map v ↔ (j 0).val = R.val := by
  refine ⟨fun h => ?_, fun h => Finset.mem_map.mpr ⟨ix1 (j 1), Finset.mem_univ _, ?_⟩⟩
  · obtain ⟨p, -, e⟩ := Finset.mem_map.mp h
    rw [← e, hv]
    rfl
  · rw [hv]
    funext a
    match a with
    | ⟨0, _⟩ => exact Fin.ext h.symm
    | ⟨1, _⟩ => rfl

/-- The three arrays are the tasks' rows. -/
theorem all_rows (d : Dev nD) (X : Buf (Elt F) (xLoc d)) (I : Buf (Elt F) (iLoc d)) (f : Buf (Elt F) (oLoc d)) :
    (iprop((xLoc d ↦{fullShare} X) ∗ (iLoc d ↦{fullShare} I) ∗ (oLoc d ↦{fullShare} f)) : sProp 𝕄)
      = bigSep Finset.univ fun c => bigSep Finset.univ fun s => tilePts d (coordsV c s) X I f := by
  rw [split_rows (xLoc d) X (fun j => (j : S1024x16384.Idx) 0) (fun t => (xRow (coordsV t.1.1 t.1.2) t.2).view.set)
      fun t j => mem_row (rowFin (coordsV t.1.1 t.1.2) t.2) _ (xRow_emb _ _) j,
    split_rows (iLoc d) I (fun j => (j : S1024x8192.Idx) 0) (fun t => (iRow (coordsV t.1.1 t.1.2) t.2).view.set)
      fun t j => mem_row (rowFin (coordsV t.1.1 t.1.2) t.2) _ (iRow_emb _ _) j,
    split_rows (oLoc d) f (fun j => (j : S1024x32768.Idx) 0) (fun t => (oRow (coordsV t.1.1 t.1.2) t.2).view.set)
      fun t j => mem_row (rowFin (coordsV t.1.1 t.1.2) t.2) _ (oRow_emb _ _) j]
  unfold tilePts rowPts
  simp only [bigSep_sep']

section Run

variable (m : (ℓ : Loc nD τ sig) → Buf (Elt F) ℓ) (ρ : Dev nD → PrngReg)

/-! ## What the run computes -/

/-- The arguments and the result of the program, on device `d`. -/
abbrev aLoc (d : Dev nD) : Loc nD τ sig := (SparseCore.T d).loc main_arg0
abbrev bLoc (d : Dev nD) : Loc nD τ sig := (SparseCore.T d).loc main_arg1
abbrev yLoc (d : Dev nD) : Loc nD τ sig := (SparseCore.T d).loc main_v3

/-- The pooled values and the indices with one row to a sample and channel. -/
def xOf (d : Dev nD) : Buf (Elt F) (xLoc d) :=
  shapeCast S1024x16384 (m (aLoc d) : Vec F S16x64x8192x2 .f32) shapeCasts_S16x64x8192x2_S1024x16384
def iOf (d : Dev nD) : Buf (Elt F) (iLoc d) :=
  shapeCast S1024x8192 (m (bLoc d) : Vec F S16x64x8192 .i32) shapeCasts_S16x64x8192_S1024x8192
/-- The result: the unpooled rows at the shape of the result. -/
def yOf (d : Dev nD) : Buf (Elt F) (yLoc d) :=
  shapeCast S16x64x16384x2 (outSpec (F := F) (xOf m d) (iOf m d)) shapeCasts_S1024x32768_S16x64x16384x2

/-! ## The call -/

/-- One task's rows before the call and after it. -/
def before (d : Dev nD) (c : Fin (grid0.bound 0)) (s : Fin (grid0.bound 1)) : sProp 𝕄 :=
  tilePts d (coordsV c s) (xOf m d) (iOf m d) (m (oLoc d))
def after (d : Dev nD) (c : Fin (grid0.bound 0)) (s : Fin (grid0.bound 1)) : sProp 𝕄 :=
  tilePts d (coordsV c s) (xOf m d) (iOf m d) (outSpec (F := F) (xOf m d) (iOf m d))

/-- The rows of all of a SparseCore's tasks. -/
def beforeAll (d : Dev nD) (c : Fin (grid0.bound 0)) : sProp 𝕄 := bigSep Finset.univ fun s : Fin (grid0.bound 1) => before m d c s
def afterAll (d : Dev nD) (c : Fin (grid0.bound 0)) : sProp 𝕄 := bigSep Finset.univ fun s : Fin (grid0.bound 1) => after m d c s

/-- A task's rows can be sent from thread to thread, -/
theorem storable_tile (d : Dev nD) (L : grid0.Coords) (X : Buf (Elt F) (xLoc d)) (I : Buf (Elt F) (iLoc d)) (f : Buf (Elt F) (oLoc d)) :
    BI.Storable (upEmb : UEmb _ 𝕄) (tilePts d L X I f) := by
  unfold tilePts rowPts
  infer_instance

/-- before the call and after it, one task's as all of a SparseCore's. -/
instance storable_before (d : Dev nD) (c : Fin (grid0.bound 0)) (s : Fin (grid0.bound 1)) : BI.Storable (upEmb : UEmb _ 𝕄) (before m d c s) := storable_tile _ _ _ _ _
instance storable_after (d : Dev nD) (c : Fin (grid0.bound 0)) (s : Fin (grid0.bound 1)) : BI.Storable (upEmb : UEmb _ 𝕄) (after m d c s) := storable_tile _ _ _ _ _
instance storable_beforeAll (d : Dev nD) (c : Fin (grid0.bound 0)) : BI.Storable (upEmb : UEmb _ 𝕄) (beforeAll m d c) := by unfold beforeAll; infer_instance
instance storable_afterAll (d : Dev nD) (c : Fin (grid0.bound 0)) : BI.Storable (upEmb : UEmb _ 𝕄) (afterAll m d c) := by unfold afterAll; infer_instance

/-- What the call sends: a SparseCore its tasks' rows, a task its own. -/
def P : (K (F := F)).Pay (nD := nD) (Val := Elt F) (Name := ℕ) (U := UU) where
  st := fun q d c => match q with | 0 => beforeAll m d c
  dn := fun q d c => match q with | 0 => afterAll m d c
  go := fun q d c s => match q with | 0 => before m d c s
  td := fun q d c s => match q with | 0 => after m d c s
  x := fun _ _ => iprop(emp)

instance storable_call : (P (F := F) m).IsStorable where
  st := fun q d c => match q with | 0 => storable_beforeAll m d c
  dn := fun q d c => match q with | 0 => storable_afterAll m d c
  go := fun q d c s => match q with | 0 => storable_before m d c s
  td := fun q d c s => match q with | 0 => storable_after m d c s

/-- A SparseCore's rows are its tasks' rows, before and after. -/
theorem vecSplit : (K (F := F)).VecSplit' (P m) 0 := by
  intro d c
  show beforeAll m d c ⊢ |={Set.univ}=> iprop(beforeAll m d c ∗ (afterAll m d c -∗ afterAll m d c))
  iintro H
  imodintro
  isplitl [H]; · iexact H
  iintro H; iexact H

/-- The program's task at a vector subcore is the kernel at its coordinates, on the arrays and its scratches. -/
theorem defs₀_vector (c : Fin τ.nSC) (s : Fin τ.nSub) :
    defs₀ (F := F) (.scVector c s) 0 ()
      = SparseCore.onTile hcore0 hsub0 (fun c s => cc0_k (coordsV c s) xV (Memref.isWhole_whole _) iV (Memref.isWhole_whole _) oV (Memref.isWhole_whole _)
          sX (Memref.isWhole_whole _) sI (Memref.isWhole_whole _) sO (Memref.isWhole_whole _) cc0_scoped0 cc0_scoped1 cc0_scoped2) ⟨⟩ c s := rfl

/-- Every index of every device is a position of the unpooled array. -/
def InRange : Prop := ∀ (d : Dev nD) (i : S1024x8192.Idx), BitVec.toNat (w := 32) (iOf m d i) < 16384

attribute [local irreducible] outSpec xOf iOf tilePts in
/-- Every task of the call does as `P` says. -/
theorem tileObl (hI : InRange m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body d (coordsV ⟨_, hci.1⟩ ⟨_, hci.2⟩) (xOf m d) (iOf m d) hF (hI d) (m (oLoc d)) O W hO

/-! ## The launch's own resources -/

/-- The handshakes' rounds, and nothing besides. -/
def u₀ : UU := (initOf (K (F := F)).hsCells (K (F := F)).hsToks, 1)

theorem deal : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : ∀ {J : Type} (s : Finset J), (bigSep s fun _ => (iprop(emp) : sProp 𝕄)) = iprop(emp) := fun s => bigSep_emp_const s
  unfold u₀ P
  dsimp only
  rw [e, e]
  iintro Hu
  ihave H := (ownU_pair _ _) $$ Hu
  icases H with ⟨HH, -⟩
  imodintro
  isplitl [HH]; · iexact HH
  isplitr <;> iempintro

/-! ## @main -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev y' : DevRef τ sig := Proc.devRef .tc (main_v3 : Ref sig .tc)

/-- The program's three reshapes. -/
abbrev opX : HloOp τ sig (Elt F) := StableHlo.reshape main_arg0 main_v0 (rfl : (.f32 : EltTy) = .f32) shapeCasts_S16x64x8192x2_S1024x16384
abbrev opI : HloOp τ sig (Elt F) := StableHlo.reshape main_arg1 main_v1 (rfl : (.i32 : EltTy) = .i32) shapeCasts_S16x64x8192_S1024x8192
abbrev opY : HloOp τ sig (Elt F) := StableHlo.reshape main_v2 main_v3 (rfl : (.f32 : EltTy) = .f32) shapeCasts_S1024x32768_S16x64x16384x2

/-- The TensorCore's six arrays. -/
abbrev S6 : Finset (DevRef τ sig) := {a', b', x', i', o', y'}

theorem held_six (d : Dev nD) (W : Valuation τ sig (Elt F)) :
    (held (T d) S6 W : sProp 𝕄)
      = iprop((aLoc d ↦{fullShare} W a') ∗ (bLoc d ↦{fullShare} W b') ∗ (xLoc d ↦{fullShare} W x') ∗ (iLoc d ↦{fullShare} W i')
          ∗ (oLoc d ↦{fullShare} W o') ∗ (yLoc d ↦{fullShare} W y')) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The contents at the launch, -/
def W0 (d : Dev nD) : Valuation τ sig (Elt F) := fun b => m (d, b)
/-- after the two reshapes before the call, -/
def W2 (d : Dev nD) : Valuation τ sig (Elt F) := opI.result (opX.result (W0 m d))
/-- after the call, -/
def W3 (d : Dev nD) : Valuation τ sig (Elt F) := Function.update (W2 m d) o' (outSpec (F := F) (xOf m d) (iOf m d))
/-- and at the end. -/
def W4 (d : Dev nD) : Valuation τ sig (Elt F) := opY.result (W3 m d)

theorem unscoped_held (d : Dev nD) : (unscopedBufs d (fun b => m ((SparseCore.T d).loc b)) : sProp 𝕄) = held (T d) S6 (W0 m d) := by
  unfold unscopedBufs
  rw [show (Finset.univ.filter fun b : Ref sig .tc => ¬ b.isScoped) = {main_arg0, main_arg1, main_v0, main_v1, main_v2, main_v3} by decide, held_six,
    SparseCore.bigSep_insert' (by decide), SparseCore.bigSep_insert' (by decide), SparseCore.bigSep_insert' (by decide),
    SparseCore.bigSep_insert' (by decide), SparseCore.bigSep_insert' (by decide), bigSep_singleton]
  rfl

theorem W2_a (d : Dev nD) : W2 m d a' = m (aLoc d) := by
  unfold W2
  rw [StableHlo.reshape_result_ne' (h := by decide), StableHlo.reshape_result_ne' (h := by decide)]; rfl
theorem W2_b (d : Dev nD) : W2 m d b' = m (bLoc d) := by
  unfold W2
  rw [StableHlo.reshape_result_ne' (h := by decide), StableHlo.reshape_result_ne' (h := by decide)]; rfl
theorem W2_o (d : Dev nD) : W2 m d o' = m (oLoc d) := by
  unfold W2
  rw [StableHlo.reshape_result_ne' (h := by decide), StableHlo.reshape_result_ne' (h := by decide)]; rfl
theorem W2_x (d : Dev nD) : W2 m d x' = xOf m d := by
  unfold W2
  rw [StableHlo.reshape_result_ne' (h := by decide), StableHlo.reshape_result']; rfl
theorem W2_i (d : Dev nD) : W2 m d i' = iOf m d := by
  unfold W2
  rw [StableHlo.reshape_result', StableHlo.reshape_result_ne' (h := by decide)]; rfl

theorem W3_o (d : Dev nD) : W3 m d o' = outSpec (F := F) (xOf m d) (iOf m d) := Function.update_self _ _ _
theorem W3_ne (d : Dev nD) {b : DevRef τ sig} (h : b ≠ o') : W3 m d b = W2 m d b := Function.update_of_ne h _ _

theorem W4_a (d : Dev nD) : W4 m d a' = m (aLoc d) := by
  unfold W4
  rw [StableHlo.reshape_result_ne' (h := by decide)]
  exact (W3_ne m d (by decide)).trans (W2_a m d)
theorem W4_b (d : Dev nD) : W4 m d b' = m (bLoc d) := by
  unfold W4
  rw [StableHlo.reshape_result_ne' (h := by decide)]
  exact (W3_ne m d (by decide)).trans (W2_b m d)
theorem W4_y (d : Dev nD) : W4 m d y' = yOf m d := by
  unfold W4
  rw [StableHlo.reshape_result', W3_o]; rfl

/-- What @main leaves: the arguments as they were, the result computed. -/
abbrev FIN (d : Dev nD) : sProp 𝕄 :=
  iprop((aLoc d ↦{fullShare} m (aLoc d)) ∗ (bLoc d ↦{fullShare} m (bLoc d)) ∗ (yLoc d ↦{fullShare} yOf m d))

/-- What the call takes and what it hands back are the three arrays. -/
theorem call_takes (d : Dev nD) :
    iprop((xLoc d ↦{fullShare} xOf m d) ∗ (iLoc d ↦{fullShare} iOf m d) ∗ (oLoc d ↦{fullShare} m (oLoc d)))
      ⊢ (bigSep Finset.univ fun c : Fin (grid0.bound 0) => beforeAll m d c : sProp 𝕄) := by
  unfold beforeAll before
  rw [all_rows]
theorem call_gives (d : Dev nD) :
    (bigSep Finset.univ fun c : Fin (grid0.bound 0) => afterAll m d c : sProp 𝕄)
      ⊢ iprop((xLoc d ↦{fullShare} xOf m d) ∗ (iLoc d ↦{fullShare} iOf m d) ∗ (oLoc d ↦{fullShare} outSpec (F := F) (xOf m d) (iOf m d))) := by
  unfold afterAll after
  rw [all_rows]

/-- The same, as the call states them. -/
theorem st_eq (d : Dev nD) : (bigSep Finset.univ fun c : Fin ((K (F := F)).nCore 0) => (P m).st 0 d c : sProp 𝕄) = bigSep Finset.univ fun c : Fin (grid0.bound 0) => beforeAll m d c := rfl
theorem dn_eq (d : Dev nD) : (bigSep Finset.univ fun c : Fin ((K (F := F)).nCore 0) => (P m).dn 0 d c : sProp 𝕄) = bigSep Finset.univ fun c : Fin (grid0.bound 0) => afterAll m d c := rfl

/-- The arrays after the two reshapes, -/
theorem held_W2 (d : Dev nD) :
    (held (T d) S6 (opI.result (opX.result (W0 m d))) : sProp 𝕄)
      ⊢ iprop((aLoc d ↦{fullShare} m (aLoc d)) ∗ (bLoc d ↦{fullShare} m (bLoc d)) ∗ (xLoc d ↦{fullShare} xOf m d) ∗ (iLoc d ↦{fullShare} iOf m d)
          ∗ (oLoc d ↦{fullShare} m (oLoc d)) ∗ (yLoc d ↦{fullShare} W2 m d y')) := by
  rw [show opI.result (opX.result (W0 m d)) = W2 m d from rfl, held_six, W2_x, W2_i, W2_o, W2_a, W2_b]
/-- after the call -/
theorem held_W3 (d : Dev nD) :
    iprop((aLoc d ↦{fullShare} m (aLoc d)) ∗ (bLoc d ↦{fullShare} m (bLoc d)) ∗ (xLoc d ↦{fullShare} xOf m d) ∗ (iLoc d ↦{fullShare} iOf m d)
        ∗ (oLoc d ↦{fullShare} outSpec (F := F) (xOf m d) (iOf m d)) ∗ (yLoc d ↦{fullShare} W2 m d y'))
      ⊢ (held (T d) S6 (W3 m d) : sProp 𝕄) := by
  rw [held_six, W3_o, W3_ne m d (b := a') (by decide), W3_ne m d (b := b') (by decide), W3_ne m d (b := x') (by decide), W3_ne m d (b := i') (by decide),
    W3_ne m d (b := y') (by decide), W2_a, W2_b, W2_x, W2_i]
/-- and at the end. -/
theorem held_W4 (d : Dev nD) : (held (T d) S6 (opY.result (W3 m d)) : sProp 𝕄) ⊢ FIN m d := by
  rw [show opY.result (W3 m d) = W4 m d from rfl, held_six, W4_a, W4_b, W4_y]
  iintro ⟨Ha, Hb, -, -, -, Hy⟩
  isplitl [Ha]; · iexact Ha
  isplitl [Hb] <;> iassumption

attribute [local irreducible] outSpec xOf iOf yOf tilePts in
/-- @main: two reshapes, the call, the last reshape. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) (show ({a', x'} : Finset (DevRef τ sig)) ⊆ S6 by decide) (V := W0 m d)) $$ [Hb Hheld]
  · isplitl [Hb] <;> iassumption
  iintro ⟨Hb, Hheld⟩
  rw [wp_ret]; imodintro
  iapply (wp_hlo_within 𝒱 (SparseCore.T d) none Set.univ (op := opI) (S := S6) (show ({b', i'} : Finset (DevRef τ sig)) ⊆ S6 by decide) (V := opX.result (W0 m d))) $$ [Hb Hheld]
  · isplitl [Hb] <;> iassumption
  iintro ⟨Hb, Hheld⟩
  rw [wp_ret]; imodintro
  ihave H := (held_W2 m d) $$ Hheld
  icases H with ⟨Ha, Hib, Hx, Hi, Ho, Hy⟩
  ihave Hrows := ((call_takes m d).trans (Entails.of_eq (st_eq m d).symm)) $$ [Hx Hi Ho]
  · isplitl [Hx]; · iexact Hx
    isplitl [Hi] <;> iassumption
  iapply ((K (F := F)).wp_run (D (F := F)) 𝒱 (EH := EH) (P := P m) κ d 0) $$ [Hst Hrows Hb Ha Hib Hy Hts]
  isplitr; · iexact Hctx
  isplitl [Hst]; · iexact Hst
  isplitl [Hrows]; · iexact Hrows
  iintro ⟨Hst, Hdn⟩
  ihave Hdn := (Entails.of_eq (dn_eq m d)) $$ Hdn
  ihave H := (call_gives m d) $$ Hdn
  icases H with ⟨Hx, Hi, Ho⟩
  iapply (wp_hlo_within 𝒱 (SparseCore.T d) none Set.univ (op := opY) (S := S6) (show ({o', y'} : Finset (DevRef τ sig)) ⊆ S6 by decide) (V := W3 m d)) $$ [Hb Ha Hib Hx Hi Ho Hy]
  · isplitl [Hb]; · iexact Hb
    iapply (held_W3 m d) $$ [Ha Hib Hx Hi Ho Hy]
    isplitl [Ha]; · iexact Ha
    isplitl [Hib]; · iexact Hib
    isplitl [Hx]; · iexact Hx
    isplitl [Hi]; · iexact Hi
    isplitl [Ho] <;> iassumption
  iintro ⟨Hb, Hheld⟩
  ihave H := (held_W4 m d) $$ Hheld
  rw [wp_ret]; imodintro; imodintro
  isplitl [Hst]; · iexact Hst
  isplitl [H]; · iexact H
  isplitl [Hb] <;> iassumption

/-! ## The run -/

/-- What is read off the memory at the end. -/
def ends (d : Dev nD) (s' : Phys nD τ sig (Elt F)) : Prop :=
  s'.mem.mem (aLoc d) = m (aLoc d) ∧ s'.mem.mem (bLoc d) = m (bLoc d) ∧ s'.mem.mem (yLoc d) = yOf m d

/-- An array owned whole is the memory's. -/
theorem read_off (s' : Phys nD τ sig (Elt F)) (ℓ : Loc nD τ sig) (f : Buf (Elt F) ℓ) :
    iprop(SI s' ∗ (ℓ ↦{fullShare} f)) ⊢ (iprop(⌜s'.mem.mem ℓ = f⌝ ∗ SI s' ∗ (ℓ ↦{fullShare} f)) : sProp 𝕄) :=
  (persistent_entails_right (SI_pointsTo_agree (st := s') (ℓ := ℓ) (I := Finset.univ) (q := fullShare) (f := f))).trans (by
    iintro ⟨%h, HA⟩
    isplitr
    · ipureintro; exact funext fun i => h i (Finset.mem_univ i)
    · iexact HA)

theorem ends_of (d : Dev nD) (s' : Phys nD τ sig (Elt F)) : iprop(FIN m d ∗ SI s') ⊢ (⌜ends m d s'⌝ : sProp 𝕄) := by
  iintro ⟨⟨Ha, Hb, Hy⟩, HS⟩
  ihave H := (read_off s' (aLoc d) (m (aLoc d))) $$ [HS Ha]
  · isplitl [HS] <;> iassumption
  icases H with ⟨%ha, HS, -⟩
  ihave H := (read_off s' (bLoc d) (m (bLoc d))) $$ [HS Hb]
  · isplitl [HS] <;> iassumption
  icases H with ⟨%hb, HS, -⟩
  ihave H := (read_off s' (yLoc d) (yOf m d)) $$ [HS Hy]
  · isplitl [HS] <;> iassumption
  icases H with ⟨%hy, -⟩
  ipureintro; exact ⟨ha, hb, hy⟩

/-- Every execution from the launch ends, the arguments as they were, the result at `yOf`, every semaphore at zero. -/
theorem run_ends [∀ e, Nonempty (Elt F e)] (hI : InRange m) :
    θ_run (Cert.KernelIdeal.defs (F := F)) (Cert.KernelIdeal.threads (F := F)) ⟨m, fun _ => 0, ρ⟩
      (fun r => (∀ c : Dev nD, r.2.mem (aLoc c) = m (aLoc c) ∧ r.2.mem (bLoc c) = m (bLoc c) ∧ r.2.mem (yLoc c) = yOf m c) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hI facts)
    (fun q _ => match q with | 0 => SparseCore.Cfg.VecSplit.of_plain (vecSplit m))
    m ρ main (fun _ => iprop(emp)) (FIN m) (u₀ (F := F)) (sep_elim_left.trans (deal m)) (main_run m ρ) (ends m) (ends_of m) _ (fun _ h hz => ⟨h, hz⟩)

end Run

end Cert.Proof.KernelIdealRun

end
-- ==== Proof.RowScatter.lean ====
/-
  A scatter of pairs into the rows of a two-column array, one index word to a pair, the last pair at a row winning: read at
  one place it is the last of the pairs whose word is that row's number. Nothing here names a program.
-/
module

public import Idealize.ShloMosaic.Lib.Routing.OpsPair
public import Idealize.ShloMosaic.Lib.Pipeline.Value
public import proofs.«01_k».proof.Proof.Scatter

@[expose] public section

namespace Cert.Proof.Scatter

open Idealize.ShloMosaic Idealize.ShloMosaic.LaneScatter
open Idealize.ShloMosaic.ValueIdx (ix1 ix2)

variable {α : Type}

/-- Two reshapes of one array agree at places of the same number. -/
theorem shapeCast_same {s t u : Shape} (x : s.Idx → α) (h : s.ShapeCasts t) (h' : s.ShapeCasts u) (j : t.Idx) (k : u.Idx)
    (e : (t.rowMajor j).val = (u.rowMajor k).val) : shapeCast t x h j = shapeCast u x h' k :=
  shapeCast_apply x h j _ ((Shape.rowMajor_reshapeEquiv h' k).trans e.symm)

section Rows

variable {Q M : ℕ}

/-- How such a scatter is dimensioned: a pair is a row of the updates and goes to a row of the operand. -/
abbrev pairRows (wf : ScatterDims.WF ⟨2, ![Q, 2]⟩ ⟨2, ![M, 1]⟩ ⟨2, ![M, 2]⟩ [1] [0] [0] 1) :
    ScatterDims ⟨2, ![Q, 2]⟩ ⟨2, ![M, 1]⟩ ⟨2, ![M, 2]⟩ where
  updateWindowDims := [1]
  insertedWindowDims := [0]
  scatterDimsToOperandDims := [0]
  indexVectorDim := 1
  wf := wf

variable (wf : ScatterDims.WF ⟨2, ![Q, 2]⟩ ⟨2, ![M, 1]⟩ ⟨2, ![M, 2]⟩ [1] [0] [0] 1)

/-- Part `e` of pair `k` lands at part `c` of row `q` exactly when the pair's word is `q` and `e` is `c`. -/
theorem lands_row (w : IVec ⟨2, ![M, 1]⟩ 32) (k : Fin M) (e : Fin 2) (q : Fin Q) (c : Fin 2) :
    (pairRows wf).resultIdx? (ix2 k e) w = some (ix2 q c) ↔ (w (ix2 k (0 : Fin 1))).toInt = (q.val : Int) ∧ e = c := by
  have s0 : (pairRows wf).start (ix2 k e) w 0 = (w (ix2 k (0 : Fin 1))).toInt := by
    unfold ScatterDims.start
    rw [dif_pos (List.mem_singleton.2 rfl)]
    refine congrArg (fun i => (w i).toInt) (funext fun b => Fin.ext ?_)
    match b with
    | ⟨0, _⟩ => rfl
    | ⟨1, _⟩ => rfl
  have s1 : (pairRows wf).start (ix2 k e) w 1 = 0 := by
    unfold ScatterDims.start
    exact dif_neg (show ¬(1 : Fin 2) ∈ ([0] : List (Fin 2)) by decide)
  have w0 : (pairRows wf).window (ix2 k e) 0 = 0 := rfl
  have w1 : (pairRows wf).window (ix2 k e) 1 = e.val := rfl
  rw [Routing.resultIdx?_eq_some]
  constructor
  · intro h
    have h0 := h 0
    have h1 := h 1
    rw [s0, w0] at h0
    rw [s1, w1] at h1
    refine ⟨?_, Fin.ext ?_⟩
    · change _ = (q.val : Int) at h0
      omega
    · change _ = (c.val : Int) at h1
      omega
  · rintro ⟨h, rfl⟩ a
    match a with
    | ⟨0, _⟩ =>
      show (pairRows wf).start (ix2 k e) w 0 + ((pairRows wf).window (ix2 k e) 0 : Int) = (q.val : Int)
      rw [s0, w0, h]; omega
    | ⟨1, _⟩ =>
      show (pairRows wf).start (ix2 k e) w 1 + ((pairRows wf).window (ix2 k e) 1 : Int) = (e.val : Int)
      rw [s1, w1]; omega

/-- The scatter read at part `c` of row `q`, every pair's word being a number `g` of a row: the last of the updates whose
    number is `q` and whose part is `c`, and what the operand holds when there is none. -/
theorem pairRows_at (hM : 0 < M) (x : (⟨2, ![Q, 2]⟩ : Shape).Idx → α) (w : IVec ⟨2, ![M, 1]⟩ 32) (u : (⟨2, ![M, 2]⟩ : Shape).Idx → α)
    (g : ℕ → ℕ) (hg : ∀ k : Fin M, (w (ix2 k (0 : Fin 1))).toInt = (g k.val : Int)) (q : Fin Q) (c : Fin 2) :
    Host.scatter (pairRows wf) (fun _ b => b) x w u (ix2 q c)
      = lastHit (fun n => g (n / 2) = q.val ∧ n % 2 = c.val)
          (fun n => u (ix2 (⟨n / 2 % M, Nat.mod_lt _ hM⟩ : Fin M) (⟨n % 2, Nat.mod_lt _ (by omega)⟩ : Fin 2)))
          (x (ix2 q c)) (M * 2) := by
  have hN : (⟨2, ![M, 2]⟩ : Shape).numel = M * 2 := by
    show ∏ a : Fin 2, (![M, 2] : Fin 2 → ℕ) a = M * 2
    rw [Fin.prod_univ_two]; rfl
  rw [Routing.scatter_at, ← hN, ← foldl_lastHit]
  refine List.foldl_ext _ _ _ fun a n _ => ?_
  have hn : n.val < M * 2 := lt_of_lt_of_eq n.isLt hN
  have hk : n.val / 2 < M := by omega
  have ek : (⟨n.val / 2 % M, Nat.mod_lt _ hM⟩ : Fin M) = ⟨n.val / 2, hk⟩ := Fin.ext (Nat.mod_eq_of_lt hk)
  rw [Routing.symm22 n hk (Nat.mod_lt _ (by omega)), ek]
  refine if_congr ((lands_row wf w _ _ q c).trans (and_congr ?_ Fin.ext_iff)) rfl rfl
  rw [hg]
  exact Int.natCast_inj

/-- If the pairs stand in blocks of `m`, and a block's pairs go to rows of a block of `n` of their own, the scatter read in
    row `p` of block `r` is the last of that block's pairs that goes there. -/
theorem pairRows_block (hM : 0 < M) {m n R : ℕ} (hm : M = R * m) (x : (⟨2, ![Q, 2]⟩ : Shape).Idx → α) (w : IVec ⟨2, ![M, 1]⟩ 32)
    (u : (⟨2, ![M, 2]⟩ : Shape).Idx → α) (d : ℕ → ℕ → ℕ) (hd : ∀ r k, d r k < n)
    (hw : ∀ k : Fin M, (w (ix2 k (0 : Fin 1))).toInt = ((k.val / m * n + d (k.val / m) (k.val % m) : ℕ) : Int))
    (r p : ℕ) (hr : r < R) (hp : p < n) (q : Fin Q) (hq : q.val = r * n + p) (c : Fin 2) (y : ℕ → α)
    (hy : ∀ k (hk : k < m) (h : r * m + k < M), u (ix2 (⟨r * m + k, h⟩ : Fin M) c) = y (2 * k + c.val)) :
    Host.scatter (pairRows wf) (fun _ b => b) x w u (ix2 q c) = rowOut (d r) y (x (ix2 q c)) m (2 * p + c.val) := by
  have hc := c.isLt
  have hlt : ∀ k, k < m → r * m + k < M := fun k hk => by
    have h1 : (r + 1) * m ≤ R * m := Nat.mul_le_mul_right m hr
    rw [Nat.succ_mul] at h1
    omega
  have hsplit : ∀ k, k < m → (r * m + k) / m = r ∧ (r * m + k) % m = k := fun k hk => by
    have hm0 : 0 < m := by omega
    refine ⟨?_, ?_⟩
    · rw [Nat.add_comm, Nat.mul_comm, Nat.add_mul_div_left _ _ hm0, Nat.div_eq_of_lt hk, Nat.zero_add]
    · rw [Nat.add_comm, Nat.mul_comm, Nat.add_mul_mod_self_left, Nat.mod_eq_of_lt hk]
  -- an update goes to row `q` exactly when it is of block `r` and goes to row `p` of that block
  have hgo : ∀ k, k / m * n + d (k / m) (k % m) = q.val → k / m = r ∧ d r (k % m) = p := fun k e => by
    have hn : 0 < n := by omega
    have e1 : (k / m * n + d (k / m) (k % m)) / n = k / m := by
      rw [Nat.add_comm, Nat.mul_comm, Nat.add_mul_div_left _ _ hn, Nat.div_eq_of_lt (hd _ _), Nat.zero_add]
    have e2 : (r * n + p) / n = r := by
      rw [Nat.add_comm, Nat.mul_comm, Nat.add_mul_div_left _ _ hn, Nat.div_eq_of_lt hp, Nat.zero_add]
    have e3 : k / m = r := by rw [← e1, e, hq, e2]
    refine ⟨e3, ?_⟩
    rw [e3, hq] at e
    omega
  rw [pairRows_at wf hM x w u (fun k => k / m * n + d (k / m) (k % m)) hw q c]
  unfold rowOut
  have h2 : (2 * p + c.val) / 2 = p := by omega
  have h3 : (2 * p + c.val) % 2 = c.val := by omega
  rw [h2, h3]
  rcases lastHit_cases (fun k => d r k = p) (fun k => y (2 * k + c.val)) (x (ix2 q c)) m with ⟨k, hk, hit, hlast, heq⟩ | ⟨hno, heq⟩
  · have a1 : (2 * (r * m + k) + c.val) / 2 = r * m + k := by omega
    have a2 : (2 * (r * m + k) + c.val) % 2 = c.val := by omega
    have hkM := hlt k hk
    rw [heq, ← hy k hk hkM]
    have hh0 : (2 * (r * m + k) + c.val) / 2 / m * n + d ((2 * (r * m + k) + c.val) / 2 / m) ((2 * (r * m + k) + c.val) / 2 % m) = q.val := by
      rw [a1, (hsplit k hk).1, (hsplit k hk).2, hit, hq]
    refine (lastHit_of_last (k := 2 * (r * m + k) + c.val) _ _ ⟨hh0, a2⟩ (by omega) ?_).trans ?_
    · intro j hj hjM hh
      obtain ⟨b1, b2⟩ := hgo _ hh.1
      have hj2 := hh.2
      have hm0 : 0 < m := by omega
      have b3 : j / 2 = r * m + j / 2 % m := by
        have := Nat.div_add_mod (j / 2) m
        rw [b1, Nat.mul_comm] at this
        omega
      exact hlast (j / 2 % m) (by omega) (Nat.mod_lt _ hm0) b2
    · refine congrArg u ?_
      funext a
      match a with
      | ⟨0, _⟩ => exact Fin.ext (show (2 * (r * m + k) + c.val) / 2 % M = r * m + k by rw [a1, Nat.mod_eq_of_lt hkM])
      | ⟨1, _⟩ => exact Fin.ext a2
  · rw [heq]
    refine lastHit_of_none _ _ fun j hj hh => ?_
    obtain ⟨b1, b2⟩ := hgo _ hh.1
    have hm0 : 0 < m := by
      rcases Nat.eq_zero_or_pos m with h | h
      · rw [h] at hm; omega
      · exact h
    exact hno _ (Nat.mod_lt _ hm0) b2

end Rows

end Cert.Proof.Scatter

end
-- ==== Proof.RefValue.lean ====
/-
  What the reference computes, in the words of the kernel's proof. The reference numbers the 16777216 rows of its result
  through, row `16384 r + p` standing for place `p` of row `r`, and scatters the pairs into them. When every index is below
  16384, its result is the unpooled rows `outSpec` (Proof/KernelIdealTask.lean) at the shape of the result.
-/
module

public import proofs.«01_k».proof.Proof.RowScatter
public import proofs.«01_k».proof.Proof.KernelIdealTask
public import proofs.«01_k».proof.Proof.Gen.ReferenceIdeal
public import proofs.«01_k».proof.Proof.Gen.Pre_in_range
public import Idealize.ShloMosaic.Lib.Routing.Ops
public import Idealize.ShloMosaic.Lib.ReduceAll
public import Idealize.ShloMosaic.Lib.WordCmp

@[expose] public section

set_option maxRecDepth 16384

noncomputable section

namespace Cert.Proof.RefValue

open Cert.ReferenceIdeal Cert.ReferenceIdeal.Gen
open Idealize.ShloMosaic
open Idealize.ShloMosaic.ValueIdx (ix0 ix1 ix2 ix4)
open Cert.Proof.Scatter
open Cert.Proof.KernelIdealRun (outSpec zf)

variable {F : FTy → Type} [FloatOps F]

/-! ## The precondition -/

/-- The precondition says that every index is below 16384. -/
theorem lt_of_pre {a : FVec F S16x64x8192x2 .f32} {b : IVec S16x64x8192 32}
    (h : Cert.Pre_in_range.fn (F := F) a b = fun _ => 1#1) (i : S16x64x8192.Idx) : (b i).toNat < 16384 := by
  have : Subsingleton Cert.Pre_in_range.S_.Idx := ⟨fun x y => funext fun k => k.elim0⟩
  have h2 := Host.reduce_andi_all _ _ _ _ ix0 (congrFun h ix0) i
  obtain ⟨h3, h4⟩ := IntOp.andi_eq_one.1 h2
  have h5 : (0 : Int) ≤ (b i).toInt := IntOp.cmpi_sge.1 h3
  have h6 : (b i).toInt < 16384 := IntOp.cmpi_slt.1 h4
  have h7 := WordCmp.toInt_eq_toNat_of_lt_half ((WordCmp.toInt_nonneg_iff_lt_half (b i)).1 h5)
  omega

/-! ## The reference's result -/

/-- The number, as a word, of the row each pair goes to. -/
def flat (b : IVec S16x64x8192 32) : IVec S8388608 32 :=
  shapeCast _ (addi (broadcastInDim S1024x8192 ![0, 1] bcast_S1024x1_S1024x8192_0_1
      (muli (broadcastInDim S1024x1 ![0] bcast_S1024_S1024x1_0 (iotaInDim S1024 32 0)) (broadcastInDim S1024x1 ![] bcast_S_S1024x1 (constantI S_ 32 16384#32))))
    (shapeCast _ b shapeCasts_S16x64x8192_S1024x8192)) shapeCasts_S1024x8192_S8388608

/-- The same, a negative one counted from the end, as a column. -/
def words (b : IVec S16x64x8192 32) : IVec S8388608x1 32 :=
  broadcastInDim S8388608x1 ![0] bcast_S8388608_S8388608x1_0
    (select (cmpi .slt (flat b) (broadcastInDim S8388608 ![] bcast_S_S8388608 (constantI S_ 32 0#32)))
      (addi (flat b) (broadcastInDim S8388608 ![] bcast_S_S8388608 (constantI S_ 32 16777216#32))) (flat b))

/-- The reference's result as its operations compose it. -/
def refOut (a : FVec F S16x64x8192x2 .f32) (b : IVec S16x64x8192 32) : FVec F S16x64x16384x2 .f32 :=
  shapeCast _ (Host.scatter scatter_S16777216x2_S8388608x1_S8388608x2_1_0_0_1 (fun _ b => b)
    (broadcastInDim S16777216x2 ![] bcast_S_S16777216x2 (constant S_ .f32 0x00000000#32)) (words b)
    (shapeCast _ a shapeCasts_S16x64x8192x2_S8388608x2)) shapeCasts_S16777216x2_S16x64x16384x2

/-- A pair's word before wrapping: 16384 times its row's number, plus its index. -/
theorem flat_at (b : IVec S16x64x8192 32) (k : Fin 8388608) (r : Fin 1024) (c : Fin 8192) (hk : k.val = r.val * 8192 + c.val) :
    flat b (ix1 k) = BitVec.ofNat 32 r.val * 16384#32 + shapeCast S1024x8192 b shapeCasts_S16x64x8192_S1024x8192 (ix2 r c) := by
  unfold flat
  refine (shapeCast_apply _ _ (ix1 k) (@ix2 1024 8192 r c) ?_).trans ?_
  · rw [Shape.rowMajor_val_one, Shape.rowMajor_val_two]
    exact hk.symm
  · refine congrArg (fun w => w + shapeCast S1024x8192 b shapeCasts_S16x64x8192_S1024x8192 (ix2 r c)) ?_
    refine (broadcastInDim_apply _ bcast_S1024x1_S1024x8192_0_1 _ _ (ix2 r (0 : Fin 1)) fun a => ?_).trans ?_
    · match a with
      | ⟨0, _⟩ => rfl
      | ⟨1, _⟩ => rfl
    · exact congrArg₂ (fun v w : BitVec 32 => v * w) (Routing.bcCol bcast_S1024_S1024x1_0 (iotaInDim S1024 32 0) r)
        (Routing.bc0 bcast_S_S1024x1 (constantI S_ 32 16384#32) (ix2 r (0 : Fin 1)))

/-- A pair's word: the number of the row it goes to, as its index is below 16384. -/
theorem words_at (b : IVec S16x64x8192 32) (k : Fin 8388608) (r : Fin 1024) (c : Fin 8192) (hk : k.val = r.val * 8192 + c.val)
    (hb : (shapeCast S1024x8192 b shapeCasts_S16x64x8192_S1024x8192 (ix2 r c)).toNat < 16384) :
    (words b (ix2 k (0 : Fin 1))).toInt = ((r.val * 16384 + (shapeCast S1024x8192 b shapeCasts_S16x64x8192_S1024x8192 (ix2 r c)).toNat : ℕ) : Int) := by
  have hr := r.isLt
  have e : (flat b (ix1 k)).toNat = r.val * 16384 + (shapeCast S1024x8192 b shapeCasts_S16x64x8192_S1024x8192 (ix2 r c)).toNat := by
    rw [flat_at b k r c hk, BitVec.toNat_add, BitVec.toNat_mul, BitVec.toNat_ofNat, BitVec.toNat_ofNat]
    omega
  have hlt : (flat b (ix1 k)).toNat < 2 ^ (32 - 1) := by omega
  have ei : (flat b (ix1 k)).toInt = ((flat b (ix1 k)).toNat : Int) := WordCmp.toInt_eq_toNat_of_lt_half hlt
  have ew : words b (ix2 k (0 : Fin 1)) = flat b (ix1 k) := by
    unfold words
    refine (Routing.bcCol bcast_S8388608_S8388608x1_0 _ k).trans ?_
    have ec : cmpi .slt (flat b) (broadcastInDim S8388608 ![] bcast_S_S8388608 (constantI S_ 32 0#32)) (ix1 k) ≠ 1#1 := by
      intro h
      have h' : IntOp.cmpi .slt (flat b (ix1 k)) 0#32 = 1#1 := h
      have h'' : (flat b (ix1 k)).toInt < 0 := IntOp.cmpi_slt.1 h'
      omega
    exact if_neg ec
  rw [ew, ei, e]

/-- When every index is below 16384, the reference's result is the unpooled rows. -/
theorem refOut_eq (a : FVec F S16x64x8192x2 .f32) (b : IVec S16x64x8192 32) (hb : ∀ i, (b i).toNat < 16384)
    (h1 : S16x64x8192x2.ShapeCasts ⟨2, ![1024, 16384]⟩) (h2 : S16x64x8192.ShapeCasts S1024x8192)
    (h3 : (⟨2, ![1024, 32768]⟩ : Shape).ShapeCasts S16x64x16384x2) :
    refOut a b = shapeCast S16x64x16384x2 (outSpec (F := F) (shapeCast _ a h1) (shapeCast _ b h2)) h3 := by
  funext j
  have hj0 : (j 0).val < 16 := (j 0).isLt
  have hj1 : (j 1).val < 64 := (j 1).isLt
  have hj2 : (j 2).val < 16384 := (j 2).isLt
  have hj3 : (j 3).val < 2 := (j 3).isLt
  have hbr : ∀ r c, (shapeCast S1024x8192 b h2 (ix2 r c)).toNat < 16384 := fun r c => hb _
  obtain ⟨r, hr⟩ : ∃ r : Fin 1024, r.val = (j 0).val * 64 + (j 1).val := ⟨⟨(j 0).val * 64 + (j 1).val, by omega⟩, rfl⟩
  obtain ⟨q, hq⟩ : ∃ q : Fin 16777216, q.val = r.val * 16384 + (j 2).val := ⟨⟨r.val * 16384 + (j 2).val, by omega⟩, rfl⟩
  obtain ⟨p, hp⟩ : ∃ p : Fin 32768, p.val = 2 * (j 2).val + (j 3).val := ⟨⟨2 * (j 2).val + (j 3).val, by omega⟩, rfl⟩
  have e1 : refOut a b j = Host.scatter scatter_S16777216x2_S8388608x1_S8388608x2_1_0_0_1 (fun _ b => b)
      (broadcastInDim S16777216x2 ![] bcast_S_S16777216x2 (constant S_ .f32 0x00000000#32)) (words b)
      (shapeCast _ a shapeCasts_S16x64x8192x2_S8388608x2) (ix2 q (⟨(j 3).val, hj3⟩ : Fin 2)) := by
    unfold refOut
    refine shapeCast_apply _ _ j (@ix2 16777216 2 q ⟨(j 3).val, hj3⟩) ?_
    rw [Shape.rowMajor_val_two, Shape.rowMajor_val_four]
    show q.val * 2 + (j 3).val = (((j 0).val * 64 + (j 1).val) * 16384 + (j 2).val) * 2 + (j 3).val
    rw [hq, hr]
  have e2 : shapeCast S16x64x16384x2 (outSpec (F := F) (shapeCast _ a h1) (shapeCast _ b h2)) h3 j
      = outSpec (F := F) (shapeCast _ a h1) (shapeCast _ b h2) (ix2 r p) := by
    refine shapeCast_apply _ _ j (@ix2 1024 32768 r p) ?_
    rw [Shape.rowMajor_val_two, Shape.rowMajor_val_four]
    show r.val * 32768 + p.val = (((j 0).val * 64 + (j 1).val) * 16384 + (j 2).val) * 2 + (j 3).val
    rw [hp, hr]
    omega
  rw [e1, e2]
  refine (pairRows_block scatter_S16777216x2_S8388608x1_S8388608x2_1_0_0_1.wf (by omega) (m := 8192) (n := 16384) (R := 1024) (by omega) _ (words b) _
    (fun r k => (cell (a := 1024) (b := 8192) (by omega) (shapeCast S1024x8192 b h2) ⟨r % 1024, Nat.mod_lt _ (by omega)⟩ k).toNat)
    (fun r k => hbr _ _) ?_ r.val (j 2).val r.isLt hj2 q hq ⟨(j 3).val, hj3⟩
    (cell (a := 1024) (b := 16384) (by omega) (shapeCast _ a h1) r) ?_).trans ?_
  · intro k
    have hk := k.isLt
    have e3 : k.val / 8192 < 1024 := by omega
    have e4 : k.val % 8192 < 8192 := by omega
    refine (words_at b k ⟨k.val / 8192, e3⟩ ⟨k.val % 8192, e4⟩ (by show k.val = k.val / 8192 * 8192 + k.val % 8192; omega) (hbr _ _)).trans ?_
    have e5 : (⟨k.val / 8192 % 1024, Nat.mod_lt _ (by omega)⟩ : Fin 1024) = ⟨k.val / 8192, e3⟩ := Fin.ext (Nat.mod_eq_of_lt e3)
    have e6 : (⟨k.val % 8192 % 8192, Nat.mod_lt _ (by omega)⟩ : Fin 8192) = ⟨k.val % 8192, e4⟩ := Fin.ext (Nat.mod_eq_of_lt e4)
    unfold cell
    rw [e5, e6]
  · intro k hk hM
    unfold cell
    refine shapeCast_same a _ h1 (@ix2 8388608 2 ⟨r.val * 8192 + k, hM⟩ ⟨(j 3).val, hj3⟩) (@ix2 1024 16384 r _) ?_
    rw [Shape.rowMajor_val_two, Shape.rowMajor_val_two]
    show (r.val * 8192 + k) * 2 + (j 3).val = r.val * 16384 + (2 * k + (j 3).val) % 16384
    omega
  · have e7 : (⟨r.val % 1024, Nat.mod_lt _ (by omega)⟩ : Fin 1024) = r := Fin.ext (Nat.mod_eq_of_lt r.isLt)
    show rowOut _ _ _ 8192 (2 * (j 2).val + (j 3).val) = rowOut _ _ _ 8192 p.val
    rw [e7, hp]
    rfl

end Cert.Proof.RefValue

end
-- ==== Proof.lean ====
/-
  The proof of `Cert.Claim`: the unpooling kernel's program and its reference both run and leave their arguments as they were and
  every semaphore at zero, and end with equal results, whenever every index is below 16384. The kernel's run is
  Proof/KernelIdealRun.lean; what the reference computes is Proof/RefValue.lean. The program and its idealization are the same text,
  so one run, which holds of any floats, serves both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.KernelIdealRun
public import proofs.«01_k».proof.Proof.RefValue
public import Idealize.ShloMosaic.Adequacy
public import Idealize.ShloMosaic.Init

@[expose] public section

set_option maxRecDepth 65536

noncomputable section

namespace Cert.Proof

open Idealize.ShloMosaic Idealize.SL.Sem
open Cert.Kernel.Gen Cert.KernelIdeal.Gen Cert.ReferenceIdeal.Gen Cert.Pre_in_range.Gen

/-- The kernel's program runs, from any launch whose indices are in range, for any floats: the arguments end as they were, every
    semaphore at zero. -/
theorem kernel_run {F : FTy → Type} [FloatOps F] [∀ e, Nonempty (Elt F e)]
    (m : (ℓ : Loc Cert.Kernel.nD Cert.Kernel.τ Cert.Kernel.sig) → Buf (Elt F) ℓ) (g : Dev Cert.Kernel.nD → PrngReg)
    (hI : Cert.Proof.KernelIdealRun.InRange m) :
    θ_run (Cert.Kernel.defs (F := F)) (Cert.Kernel.threads (F := F)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (θ_run Cert.KernelIdeal.defs _ _).mono (fun _ h => ⟨fun c => ⟨(h.1 c).1, (h.1 c).2.1⟩, h.2⟩) (KernelIdealRun.run_ends (F := F) m g hI)

/-- The frame of the program. -/
theorem frame_p : Cert.quiescent_Kernel := fun m g hp =>
  kernel_run (F := Bits) m g fun d i => RefValue.lt_of_pre (hp d) _

/-- The frame of the idealized program. -/
theorem frame_pi : Cert.quiescent_KernelIdeal := fun m g hp =>
  (θ_run Cert.KernelIdeal.defs _ _).mono (fun _ h => ⟨fun c => ⟨(h.1 c).1, (h.1 c).2.1⟩, h.2⟩)
    (KernelIdealRun.run_ends (F := Ideal) m g fun d i => RefValue.lt_of_pre (hp d) _)

/-- The frame of the reference, which has no semaphore, whatever its indices. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same where every index is in range. -/
theorem frame_ri_in_range : Cert.quiescent_ReferenceIdeal_pre_in_range := fun m g _ => frame_ri m g trivial

/-- Run from equal arguments with every index in range, the idealized program and the reference end with equal results: the
    unpooled rows. -/
theorem algebraic : Cert.algebraic_KernelIdeal_ReferenceIdeal := by
  intro m g m' g' hp hagree
  refine ⟨fun c => KernelIdealRun.yOf m c, (θ_run Cert.KernelIdeal.defs _ _).mono (fun _ h c => ⟨(h.1 c).2.2, (h.1 c).1, (h.1 c).2.1⟩)
    (KernelIdealRun.run_ends (F := Ideal) m g fun d i => RefValue.lt_of_pre (hp d) _), ?_⟩
  refine (θ_run Cert.ReferenceIdeal.defs _ _).mono (fun r h c => ⟨(h c).1.trans ?_, (h c).2⟩) (Cert.ReferenceIdeal.Value.run (F := Ideal) m' g')
  rw [(hagree c).1, (hagree c).2]
  exact RefValue.refOut_eq (F := Ideal) _ _ (RefValue.lt_of_pre (hp c)) _ _ _

/-- Everything the certificate claims. -/
theorem claim : Cert.Claim :=
  ⟨Cert.Kernel.Gen.facts, Cert.KernelIdeal.Gen.facts, Cert.ReferenceIdeal.Gen.facts, Cert.Pre_in_range.Gen.facts,
    frame_p, frame_pi, frame_ri, frame_ri_in_range, trivial, algebraic⟩

end Cert.Proof

end
